-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseReference (m : (ℓ : Loc Cert.QuantiseReference.nD Cert.QuantiseReference.τ Cert.QuantiseReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1))
      ∧ r.2.sem = fun _ => 0)

def quiescent_QuantiseReference [hQuantiseReference : Cert.QuantiseReference.Facts] : Prop :=
  ∀ (m : (ℓ : Loc Cert.QuantiseReference.nD Cert.QuantiseReference.τ Cert.QuantiseReference.sig) → Buf (Elt Bits) ℓ) (g : Dev Cert.QuantiseReference.nD → PrngReg), Pre_QuantiseReference m →
    θ_run (Cert.QuantiseReference.defs (F := Bits)) (onTc (τ := Cert.QuantiseReference.τ) (Cert.QuantiseReference.main (F := Bits))) ⟨m, fun _ => 0, g⟩ (fun r => (∀ c : Dev Cert.QuantiseReference.nD,
      r.2.mem ((c.tc : Thread Cert.QuantiseReference.nD Cert.QuantiseReference.τ).loc Cert.QuantiseReference.main_arg0) = m ((c.tc : Thread Cert.QuantiseReference.nD Cert.QuantiseReference.τ).loc Cert.QuantiseReference.main_arg0)
      ∧ r.2.mem ((c.tc : Thread Cert.QuantiseReference.nD Cert.QuantiseReference.τ).loc Cert.QuantiseReference.main_arg1) = m ((c.tc : Thread Cert.QuantiseReference.nD Cert.QuantiseReference.τ).loc Cert.QuantiseReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0_0) = v0 c
          ∧ r.2.mem ((c.tc : Thread Cert.Reference4Ideal.nD Cert.Reference4Ideal.τ).loc Cert.Reference4Ideal.main_v0_1) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0_0) = v0 c
          ∧ r.2.mem ((c.tc : Thread Cert.Reference8Ideal.nD Cert.Reference8Ideal.τ).loc Cert.Reference8Ideal.main_v0_1) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0_0) = v0 c
          ∧ r.2.mem ((c.tc : Thread Cert.Reference12Ideal.nD Cert.Reference12Ideal.τ).loc Cert.Reference12Ideal.main_v0_1) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def bitexact_Quantise_QuantiseReference [hQuantise : Cert.Quantise.Facts] [hQuantiseReference : Cert.QuantiseReference.Facts] : Prop :=
  ∀ (m : (ℓ : Loc Cert.Quantise.nD Cert.Quantise.τ Cert.Quantise.sig) → Buf (Elt Bits) ℓ) (g : Dev Cert.Quantise.nD → PrngReg)
    (m' : (ℓ : Loc Cert.QuantiseReference.nD Cert.QuantiseReference.τ Cert.QuantiseReference.sig) → Buf (Elt Bits) ℓ) (g' : Dev Cert.QuantiseReference.nD → PrngReg), Pre_Quantise m →
    (∀ c : Dev Cert.Quantise.nD,
      m' ((c.tc : Thread Cert.QuantiseReference.nD Cert.QuantiseReference.τ).loc Cert.QuantiseReference.main_arg0) = m ((c.tc : Thread Cert.Quantise.nD Cert.Quantise.τ).loc Cert.Quantise.main_arg0)
      ∧ m' ((c.tc : Thread Cert.QuantiseReference.nD Cert.QuantiseReference.τ).loc Cert.QuantiseReference.main_arg1) = m ((c.tc : Thread Cert.Quantise.nD Cert.Quantise.τ).loc Cert.Quantise.main_arg1)) →
    ∃ (v0 : (c : Dev Cert.Quantise.nD) → Buf (Elt Bits) ((c.tc : Thread Cert.Quantise.nD Cert.Quantise.τ).loc Cert.Quantise.main_v0_0)) (v1 : (c : Dev Cert.Quantise.nD) → Buf (Elt Bits) ((c.tc : Thread Cert.Quantise.nD Cert.Quantise.τ).loc Cert.Quantise.main_v0_1)),
      θ_run (Cert.Quantise.defs (F := Bits)) (onTc (τ := Cert.Quantise.τ) (Cert.Quantise.main (F := Bits))) ⟨m, fun _ => 0, g⟩ (fun r => ∀ c : Dev Cert.Quantise.nD,
          r.2.mem ((c.tc : Thread Cert.Quantise.nD Cert.Quantise.τ).loc Cert.Quantise.main_v0_0) = v0 c
          ∧ r.2.mem ((c.tc : Thread Cert.Quantise.nD Cert.Quantise.τ).loc Cert.Quantise.main_v0_1) = v1 c
          ∧ r.2.mem ((c.tc : Thread Cert.Quantise.nD Cert.Quantise.τ).loc Cert.Quantise.main_arg0) = m ((c.tc : Thread Cert.Quantise.nD Cert.Quantise.τ).loc Cert.Quantise.main_arg0)
          ∧ r.2.mem ((c.tc : Thread Cert.Quantise.nD Cert.Quantise.τ).loc Cert.Quantise.main_arg1) = m ((c.tc : Thread Cert.Quantise.nD Cert.Quantise.τ).loc Cert.Quantise.main_arg1))
      ∧ θ_run (Cert.QuantiseReference.defs (F := Bits)) (onTc (τ := Cert.QuantiseReference.τ) (Cert.QuantiseReference.main (F := Bits))) ⟨m', fun _ => 0, g'⟩ (fun r => ∀ c : Dev Cert.QuantiseReference.nD,
          r.2.mem ((c.tc : Thread Cert.QuantiseReference.nD Cert.QuantiseReference.τ).loc Cert.QuantiseReference.main_v0_0) = v0 c
          ∧ r.2.mem ((c.tc : Thread Cert.QuantiseReference.nD Cert.QuantiseReference.τ).loc Cert.QuantiseReference.main_v0_1) = v1 c
          ∧ r.2.mem ((c.tc : Thread Cert.QuantiseReference.nD Cert.QuantiseReference.τ).loc Cert.QuantiseReference.main_arg0) = m' ((c.tc : Thread Cert.QuantiseReference.nD Cert.QuantiseReference.τ).loc Cert.QuantiseReference.main_arg0)
          ∧ r.2.mem ((c.tc : Thread Cert.QuantiseReference.nD Cert.QuantiseReference.τ).loc Cert.QuantiseReference.main_arg1) = m' ((c.tc : Thread Cert.QuantiseReference.nD Cert.QuantiseReference.τ).loc Cert.QuantiseReference.main_arg1))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel8 : Cert.Kernel8.Facts) (hKernel8Ideal : Cert.Kernel8Ideal.Facts) (hReference8Ideal : Cert.Reference8Ideal.Facts) (hKernel12 : Cert.Kernel12.Facts) (hKernel12Ideal : Cert.Kernel12Ideal.Facts) (hReference12Ideal : Cert.Reference12Ideal.Facts) (hQuantise : Cert.Quantise.Facts) (hQuantiseReference : Cert.QuantiseReference.Facts),
    quiescent_Kernel (hKernel := hKernel)
    ∧ quiescent_KernelIdeal (hKernelIdeal := hKernelIdeal)
    ∧ quiescent_ReferenceIdeal (hReferenceIdeal := hReferenceIdeal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Quantise (hQuantise := hQuantise)
    ∧ quiescent_QuantiseReference (hQuantiseReference := hQuantiseReference)
    ∧ preserves_Kernel_KernelIdeal
    ∧ algebraic_KernelIdeal_ReferenceIdeal (hKernelIdeal := hKernelIdeal) (hReferenceIdeal := hReferenceIdeal)
    ∧ preserves_Kernel4_Kernel4Ideal
    ∧ algebraic_Kernel4Ideal_Reference4Ideal (hKernel4Ideal := hKernel4Ideal) (hReference4Ideal := hReference4Ideal)
    ∧ preserves_Kernel8_Kernel8Ideal
    ∧ algebraic_Kernel8Ideal_Reference8Ideal (hKernel8Ideal := hKernel8Ideal) (hReference8Ideal := hReference8Ideal)
    ∧ preserves_Kernel12_Kernel12Ideal
    ∧ algebraic_Kernel12Ideal_Reference12Ideal (hKernel12Ideal := hKernel12Ideal) (hReference12Ideal := hReference12Ideal)
    ∧ bitexact_Quantise_QuantiseReference (hQuantise := hQuantise) (hQuantiseReference := hQuantiseReference)
-- ==== Kernel.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x26x24x1024 : Shape := ⟨4, ![1, 26, 24, 1024]⟩
abbrev S1x96x1024 : Shape := ⟨3, ![1, 96, 1024]⟩
abbrev S1x160x1024 : Shape := ⟨3, ![1, 160, 1024]⟩
abbrev S27x160x128 : Shape := ⟨3, ![27, 160, 128]⟩
abbrev S160x128 : Shape := ⟨2, ![160, 128]⟩
abbrev S1x160x1 : Shape := ⟨3, ![1, 160, 1]⟩
abbrev S1x160x128 : Shape := ⟨3, ![1, 160, 128]⟩
abbrev S1x1x24x256 : Shape := ⟨4, ![1, 1, 24, 256]⟩
abbrev S24x256 : Shape := ⟨2, ![24, 256]⟩
abbrev S96x256 : Shape := ⟨2, ![96, 256]⟩
abbrev S1x160x96 : Shape := ⟨3, ![1, 160, 96]⟩
abbrev S160x96 : Shape := ⟨2, ![160, 96]⟩
abbrev S160x256 : Shape := ⟨2, ![160, 256]⟩
abbrev S1x96x256 : Shape := ⟨3, ![1, 96, 256]⟩

abbrev nBuf : Space → Nat
  | .hbm => 9
  | .vmem => 12
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S1x26x24x1024, .i32⟩
  | .local _ .vmem, ⟨1, _⟩ => ⟨S1x26x24x1024, .i32⟩
  | .local _ .vmem, ⟨2, _⟩ => ⟨S1x96x1024, .fp8e4m3⟩
  | .local _ .vmem, ⟨3, _⟩ => ⟨S1x96x1024, .fp8e4m3⟩
  | .local _ .vmem, ⟨4, _⟩ => ⟨S27x160x96, .fp8e4m3⟩
  | .local _ .vmem, ⟨5, _⟩ => ⟨S27x160x1, .f32⟩
  | .local _ .vmem, ⟨6, _⟩ => ⟨S160x1, .f32⟩
  | .local _ .vmem, ⟨7, _⟩ => ⟨S1x160x1024, .f32⟩
  | .local _ .vmem, ⟨8, _⟩ => ⟨S1x160x1024, .f32⟩
  | .local _ .vmem, ⟨9, _⟩ => ⟨S8x128, .f32⟩
  | .local _ .vmem, ⟨10, _⟩ => ⟨S27x160x128, .f32⟩
  | .local _ .vmem, ⟨11, _⟩ => ⟨S160x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![4, 40], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x26x24x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x13x24x40960 : Shape := ⟨4, ![1, 13, 24, 40960]⟩
abbrev S13x24x40960 : Shape := ⟨3, ![13, 24, 40960]⟩
abbrev S13x96x40960 : Shape := ⟨3, ![13, 96, 40960]⟩
abbrev S1x96x40960 : Shape := ⟨3, ![1, 96, 40960]⟩
abbrev S96x40960 : Shape := ⟨2, ![96, 40960]⟩
abbrev S27x96x40960 : Shape := ⟨3, ![27, 96, 40960]⟩
abbrev S27x160x40960 : Shape := ⟨3, ![27, 160, 40960]⟩
abbrev S160x40960 : Shape := ⟨2, ![160, 40960]⟩
abbrev S1x160x40960 : Shape := ⟨3, ![1, 160, 40960]⟩
abbrev S20x8x320x128 : Shape := ⟨4, ![20, 8, 320, 128]⟩
abbrev S12x160x40960 : Shape := ⟨3, ![12, 160, 40960]⟩

abbrev nBuf : Space → Nat
  | .hbm => 9
  | .vmem => 8
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S4x26x24x40960, .i32⟩
  | .local _ .vmem, ⟨1, _⟩ => ⟨S16x96x40960, .fp8e4m3⟩
  | .local _ .vmem, ⟨2, _⟩ => ⟨S27x160x96, .fp8e4m3⟩
  | .local _ .vmem, ⟨3, _⟩ => ⟨S27x160x1, .f32⟩
  | .local _ .vmem, ⟨4, _⟩ => ⟨S160x1, .f32⟩
  | .local _ .vmem, ⟨5, _⟩ => ⟨S16x160x40960, .f32⟩
  | .local _ .vmem, ⟨6, _⟩ => ⟨S16x160x40960, .f32⟩
  | .local _ .vmem, ⟨7, _⟩ => ⟨S8x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x26x24x40960 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x96x40960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x160x40960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x160x40960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel4.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x26x24x1024 : Shape := ⟨4, ![1, 26, 24, 1024]⟩
abbrev S1x96x1024 : Shape := ⟨3, ![1, 96, 1024]⟩
abbrev S1x160x1024 : Shape := ⟨3, ![1, 160, 1024]⟩
abbrev S27x160x128 : Shape := ⟨3, ![27, 160, 128]⟩
abbrev S160x128 : Shape := ⟨2, ![160, 128]⟩
abbrev S1x160x1 : Shape := ⟨3, ![1, 160, 1]⟩
abbrev S1x160x128 : Shape := ⟨3, ![1, 160, 128]⟩
abbrev S1x1x24x256 : Shape := ⟨4, ![1, 1, 24, 256]⟩
abbrev S24x256 : Shape := ⟨2, ![24, 256]⟩
abbrev S96x256 : Shape := ⟨2, ![96, 256]⟩
abbrev S1x160x96 : Shape := ⟨3, ![1, 160, 96]⟩
abbrev S160x96 : Shape := ⟨2, ![160, 96]⟩
abbrev S160x256 : Shape := ⟨2, ![160, 256]⟩
abbrev S1x96x256 : Shape := ⟨3, ![1, 96, 256]⟩

abbrev nBuf : Space → Nat
  | .hbm => 9
  | .vmem => 12
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S1x26x24x1024, .i32⟩
  | .local _ .vmem, ⟨1, _⟩ => ⟨S1x26x24x1024, .i32⟩
  | .local _ .vmem, ⟨2, _⟩ => ⟨S1x96x1024, .fp8e4m3⟩
  | .local _ .vmem, ⟨3, _⟩ => ⟨S1x96x1024, .fp8e4m3⟩
  | .local _ .vmem, ⟨4, _⟩ => ⟨S27x160x96, .fp8e4m3⟩
  | .local _ .vmem, ⟨5, _⟩ => ⟨S27x160x1, .f32⟩
  | .local _ .vmem, ⟨6, _⟩ => ⟨S160x1, .f32⟩
  | .local _ .vmem, ⟨7, _⟩ => ⟨S1x160x1024, .f32⟩
  | .local _ .vmem, ⟨8, _⟩ => ⟨S1x160x1024, .f32⟩
  | .local _ .vmem, ⟨9, _⟩ => ⟨S8x128, .f32⟩
  | .local _ .vmem, ⟨10, _⟩ => ⟨S27x160x128, .f32⟩
  | .local _ .vmem, ⟨11, _⟩ => ⟨S160x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![4, 40], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x26x24x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x13x24x40960 : Shape := ⟨4, ![1, 13, 24, 40960]⟩
abbrev S13x24x40960 : Shape := ⟨3, ![13, 24, 40960]⟩
abbrev S13x96x40960 : Shape := ⟨3, ![13, 96, 40960]⟩
abbrev S1x96x40960 : Shape := ⟨3, ![1, 96, 40960]⟩
abbrev S96x40960 : Shape := ⟨2, ![96, 40960]⟩
abbrev S27x96x40960 : Shape := ⟨3, ![27, 96, 40960]⟩
abbrev S27x160x40960 : Shape := ⟨3, ![27, 160, 40960]⟩
abbrev S160x40960 : Shape := ⟨2, ![160, 40960]⟩
abbrev S1x160x40960 : Shape := ⟨3, ![1, 160, 40960]⟩
abbrev S20x8x320x128 : Shape := ⟨4, ![20, 8, 320, 128]⟩
abbrev S4x160x40960 : Shape := ⟨3, ![4, 160, 40960]⟩
abbrev S8x160x40960 : Shape := ⟨3, ![8, 160, 40960]⟩

abbrev nBuf : Space → Nat
  | .hbm => 9
  | .vmem => 8
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S4x26x24x40960, .i32⟩
  | .local _ .vmem, ⟨1, _⟩ => ⟨S16x96x40960, .fp8e4m3⟩
  | .local _ .vmem, ⟨2, _⟩ => ⟨S27x160x96, .fp8e4m3⟩
  | .local _ .vmem, ⟨3, _⟩ => ⟨S27x160x1, .f32⟩
  | .local _ .vmem, ⟨4, _⟩ => ⟨S160x1, .f32⟩
  | .local _ .vmem, ⟨5, _⟩ => ⟨S16x160x40960, .f32⟩
  | .local _ .vmem, ⟨6, _⟩ => ⟨S16x160x40960, .f32⟩
  | .local _ .vmem, ⟨7, _⟩ => ⟨S8x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x26x24x40960 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x96x40960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x160x40960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x160x40960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel8.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x26x24x1024 : Shape := ⟨4, ![1, 26, 24, 1024]⟩
abbrev S1x96x1024 : Shape := ⟨3, ![1, 96, 1024]⟩
abbrev S1x160x1024 : Shape := ⟨3, ![1, 160, 1024]⟩
abbrev S27x160x128 : Shape := ⟨3, ![27, 160, 128]⟩
abbrev S160x128 : Shape := ⟨2, ![160, 128]⟩
abbrev S1x160x1 : Shape := ⟨3, ![1, 160, 1]⟩
abbrev S1x160x128 : Shape := ⟨3, ![1, 160, 128]⟩
abbrev S1x1x24x256 : Shape := ⟨4, ![1, 1, 24, 256]⟩
abbrev S24x256 : Shape := ⟨2, ![24, 256]⟩
abbrev S96x256 : Shape := ⟨2, ![96, 256]⟩
abbrev S1x160x96 : Shape := ⟨3, ![1, 160, 96]⟩
abbrev S160x96 : Shape := ⟨2, ![160, 96]⟩
abbrev S160x256 : Shape := ⟨2, ![160, 256]⟩
abbrev S1x96x256 : Shape := ⟨3, ![1, 96, 256]⟩

abbrev nBuf : Space → Nat
  | .hbm => 9
  | .vmem => 12
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S1x26x24x1024, .i32⟩
  | .local _ .vmem, ⟨1, _⟩ => ⟨S1x26x24x1024, .i32⟩
  | .local _ .vmem, ⟨2, _⟩ => ⟨S1x96x1024, .fp8e4m3⟩
  | .local _ .vmem, ⟨3, _⟩ => ⟨S1x96x1024, .fp8e4m3⟩
  | .local _ .vmem, ⟨4, _⟩ => ⟨S27x160x96, .fp8e4m3⟩
  | .local _ .vmem, ⟨5, _⟩ => ⟨S27x160x1, .f32⟩
  | .local _ .vmem, ⟨6, _⟩ => ⟨S160x1, .f32⟩
  | .local _ .vmem, ⟨7, _⟩ => ⟨S1x160x1024, .f32⟩
  | .local _ .vmem, ⟨8, _⟩ => ⟨S1x160x1024, .f32⟩
  | .local _ .vmem, ⟨9, _⟩ => ⟨S8x128, .f32⟩
  | .local _ .vmem, ⟨10, _⟩ => ⟨S27x160x128, .f32⟩
  | .local _ .vmem, ⟨11, _⟩ => ⟨S160x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![4, 40], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x26x24x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference8Ideal.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x13x24x40960 : Shape := ⟨4, ![1, 13, 24, 40960]⟩
abbrev S13x24x40960 : Shape := ⟨3, ![13, 24, 40960]⟩
abbrev S13x96x40960 : Shape := ⟨3, ![13, 96, 40960]⟩
abbrev S1x96x40960 : Shape := ⟨3, ![1, 96, 40960]⟩
abbrev S96x40960 : Shape := ⟨2, ![96, 40960]⟩
abbrev S27x96x40960 : Shape := ⟨3, ![27, 96, 40960]⟩
abbrev S27x160x40960 : Shape := ⟨3, ![27, 160, 40960]⟩
abbrev S160x40960 : Shape := ⟨2, ![160, 40960]⟩
abbrev S1x160x40960 : Shape := ⟨3, ![1, 160, 40960]⟩
abbrev S20x8x320x128 : Shape := ⟨4, ![20, 8, 320, 128]⟩
abbrev S8x160x40960 : Shape := ⟨3, ![8, 160, 40960]⟩
abbrev S4x160x40960 : Shape := ⟨3, ![4, 160, 40960]⟩

abbrev nBuf : Space → Nat
  | .hbm => 9
  | .vmem => 8
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S4x26x24x40960, .i32⟩
  | .local _ .vmem, ⟨1, _⟩ => ⟨S16x96x40960, .fp8e4m3⟩
  | .local _ .vmem, ⟨2, _⟩ => ⟨S27x160x96, .fp8e4m3⟩
  | .local _ .vmem, ⟨3, _⟩ => ⟨S27x160x1, .f32⟩
  | .local _ .vmem, ⟨4, _⟩ => ⟨S160x1, .f32⟩
  | .local _ .vmem, ⟨5, _⟩ => ⟨S16x160x40960, .f32⟩
  | .local _ .vmem, ⟨6, _⟩ => ⟨S16x160x40960, .f32⟩
  | .local _ .vmem, ⟨7, _⟩ => ⟨S8x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x26x24x40960 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x96x40960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x160x40960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x160x40960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel12.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x26x24x1024 : Shape := ⟨4, ![1, 26, 24, 1024]⟩
abbrev S1x96x1024 : Shape := ⟨3, ![1, 96, 1024]⟩
abbrev S1x160x1024 : Shape := ⟨3, ![1, 160, 1024]⟩
abbrev S27x160x128 : Shape := ⟨3, ![27, 160, 128]⟩
abbrev S160x128 : Shape := ⟨2, ![160, 128]⟩
abbrev S1x160x1 : Shape := ⟨3, ![1, 160, 1]⟩
abbrev S1x160x128 : Shape := ⟨3, ![1, 160, 128]⟩
abbrev S1x1x24x256 : Shape := ⟨4, ![1, 1, 24, 256]⟩
abbrev S24x256 : Shape := ⟨2, ![24, 256]⟩
abbrev S96x256 : Shape := ⟨2, ![96, 256]⟩
abbrev S1x160x96 : Shape := ⟨3, ![1, 160, 96]⟩
abbrev S160x96 : Shape := ⟨2, ![160, 96]⟩
abbrev S160x256 : Shape := ⟨2, ![160, 256]⟩
abbrev S1x96x256 : Shape := ⟨3, ![1, 96, 256]⟩

abbrev nBuf : Space → Nat
  | .hbm => 9
  | .vmem => 12
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S1x26x24x1024, .i32⟩
  | .local _ .vmem, ⟨1, _⟩ => ⟨S1x26x24x1024, .i32⟩
  | .local _ .vmem, ⟨2, _⟩ => ⟨S1x96x1024, .fp8e4m3⟩
  | .local _ .vmem, ⟨3, _⟩ => ⟨S1x96x1024, .fp8e4m3⟩
  | .local _ .vmem, ⟨4, _⟩ => ⟨S27x160x96, .fp8e4m3⟩
  | .local _ .vmem, ⟨5, _⟩ => ⟨S27x160x1, .f32⟩
  | .local _ .vmem, ⟨6, _⟩ => ⟨S160x1, .f32⟩
  | .local _ .vmem, ⟨7, _⟩ => ⟨S1x160x1024, .f32⟩
  | .local _ .vmem, ⟨8, _⟩ => ⟨S1x160x1024, .f32⟩
  | .local _ .vmem, ⟨9, _⟩ => ⟨S8x128, .f32⟩
  | .local _ .vmem, ⟨10, _⟩ => ⟨S27x160x128, .f32⟩
  | .local _ .vmem, ⟨11, _⟩ => ⟨S160x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![4, 40], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x26x24x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference12Ideal.lean ====
abbrev S1 : Shape := ⟨1, ![1]⟩
abbrev S4x26x24x40960 : Shape := ⟨4, ![4, 26, 24, 40960]⟩
abbrev S16x96x40960 : Shape := ⟨3, ![16, 96, 40960]⟩
abbrev S27x160x96 : Shape := ⟨3, ![27, 160, 96]⟩
abbrev S27x160x1 : Shape := ⟨3, ![27, 160, 1]⟩
abbrev S160x1 : Shape := ⟨2, ![160, 1]⟩
abbrev S16x160x40960 : Shape := ⟨3, ![16, 160, 40960]⟩
abbrev S8x128 : Shape := ⟨2, ![8, 128]⟩
abbrev S1x13x24x40960 : Shape := ⟨4, ![1, 13, 24, 40960]⟩
abbrev S13x24x40960 : Shape := ⟨3, ![13, 24, 40960]⟩
abbrev S13x96x40960 : Shape := ⟨3, ![13, 96, 40960]⟩
abbrev S1x96x40960 : Shape := ⟨3, ![1, 96, 40960]⟩
abbrev S96x40960 : Shape := ⟨2, ![96, 40960]⟩
abbrev S27x96x40960 : Shape := ⟨3, ![27, 96, 40960]⟩
abbrev S27x160x40960 : Shape := ⟨3, ![27, 160, 40960]⟩
abbrev S160x40960 : Shape := ⟨2, ![160, 40960]⟩
abbrev S1x160x40960 : Shape := ⟨3, ![1, 160, 40960]⟩
abbrev S20x8x320x128 : Shape := ⟨4, ![20, 8, 320, 128]⟩
abbrev S12x160x40960 : Shape := ⟨3, ![12, 160, 40960]⟩

abbrev nBuf : Space → Nat
  | .hbm => 9
  | .vmem => 8
  | .smem => 1
  | _ => 0

abbrev bufTy : (tb : Table) → Fin (tcTables nBuf tb) → BufTy
  | .hbm, ⟨0, _⟩ => ⟨S1, .f32⟩
  | .hbm, ⟨1, _⟩ => ⟨S4x26x24x40960, .i32⟩
  | .hbm, ⟨2, _⟩ => ⟨S16x96x40960, .fp8e4m3⟩
  | .hbm, ⟨3, _⟩ => ⟨S27x160x96, .fp8e4m3⟩
  | .hbm, ⟨4, _⟩ => ⟨S27x160x1, .f32⟩
  | .hbm, ⟨5, _⟩ => ⟨S160x1, .f32⟩
  | .hbm, ⟨6, _⟩ => ⟨S16x160x40960, .f32⟩
  | .hbm, ⟨7, _⟩ => ⟨S16x160x40960, .f32⟩
  | .hbm, ⟨8, _⟩ => ⟨S8x128, .f32⟩
  | .local _ .vmem, ⟨0, _⟩ => ⟨S4x26x24x40960, .i32⟩
  | .local _ .vmem, ⟨1, _⟩ => ⟨S16x96x40960, .fp8e4m3⟩
  | .local _ .vmem, ⟨2, _⟩ => ⟨S27x160x96, .fp8e4m3⟩
  | .local _ .vmem, ⟨3, _⟩ => ⟨S27x160x1, .f32⟩
  | .local _ .vmem, ⟨4, _⟩ => ⟨S160x1, .f32⟩
  | .local _ .vmem, ⟨5, _⟩ => ⟨S16x160x40960, .f32⟩
  | .local _ .vmem, ⟨6, _⟩ => ⟨S16x160x40960, .f32⟩
  | .local _ .vmem, ⟨7, _⟩ => ⟨S8x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x26x24x40960 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x96x40960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x160x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S27x160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x160x40960 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x160x40960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Quantise.lean ====
abbrev S32x128 : Shape := ⟨2, ![32, 128]⟩
abbrev S16x160x40960 : Shape := ⟨3, ![16, 160, 40960]⟩
abbrev S1x1 : Shape := ⟨2, ![1, 1]⟩
abbrev S1x160x4096 : Shape := ⟨3, ![1, 160, 4096]⟩
abbrev S1x32x128 : Shape := ⟨3, ![1, 32, 128]⟩
abbrev S1 : Shape := ⟨1, ![1]⟩
abbrev S1x1x1 : Shape := ⟨3, ![1, 1, 1]⟩
abbrev S160x4096 : Shape := ⟨2, ![160, 4096]⟩

abbrev nBuf : Space → Nat
  | .hbm => 4
  | .vmem => 5
  | .smem => 1
  | _ => 0

abbrev bufTy : (tb : Table) → Fin (tcTables nBuf tb) → BufTy
  | .hbm, ⟨0, _⟩ => ⟨S32x128, .f32⟩
  | .hbm, ⟨1, _⟩ => ⟨S16x160x40960, .f32⟩
  | .hbm, ⟨2, _⟩ => ⟨S16x160x40960, .fp8e4m3⟩
  | .hbm, ⟨3, _⟩ => ⟨S1x1, .f32⟩
  | .local _ .vmem, ⟨0, _⟩ => ⟨S32x128, .f32⟩
  | .local _ .vmem, ⟨1, _⟩ => ⟨S1x160x4096, .f32⟩
  | .local _ .vmem, ⟨2, _⟩ => ⟨S1x160x4096, .f32⟩
  | .local _ .vmem, ⟨3, _⟩ => ⟨S1x160x4096, .fp8e4m3⟩
  | .local _ .vmem, ⟨4, _⟩ => ⟨S1x160x4096, .fp8e4m3⟩
  | .local _ .smem, ⟨0, _⟩ => ⟨S1x1, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [BitOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x160x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== QuantiseReference.lean ====
abbrev S32x128 : Shape := ⟨2, ![32, 128]⟩
abbrev S16x160x40960 : Shape := ⟨3, ![16, 160, 40960]⟩
abbrev S1x1 : Shape := ⟨2, ![1, 1]⟩
abbrev S1x32x128 : Shape := ⟨3, ![1, 32, 128]⟩
abbrev S1 : Shape := ⟨1, ![1]⟩
abbrev S1x1x1 : Shape := ⟨3, ![1, 1, 1]⟩

abbrev nBuf : Space → Nat
  | .hbm => 4
  | .vmem => 3
  | .smem => 1
  | _ => 0

abbrev bufTy : (tb : Table) → Fin (tcTables nBuf tb) → BufTy
  | .hbm, ⟨0, _⟩ => ⟨S32x128, .f32⟩
  | .hbm, ⟨1, _⟩ => ⟨S16x160x40960, .f32⟩
  | .hbm, ⟨2, _⟩ => ⟨S16x160x40960, .fp8e4m3⟩
  | .hbm, ⟨3, _⟩ => ⟨S1x1, .f32⟩
  | .local _ .vmem, ⟨0, _⟩ => ⟨S32x128, .f32⟩
  | .local _ .vmem, ⟨1, _⟩ => ⟨S16x160x40960, .f32⟩
  | .local _ .vmem, ⟨2, _⟩ => ⟨S16x160x40960, .fp8e4m3⟩
  | .local _ .smem, ⟨0, _⟩ => ⟨S1x1, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x160x40960 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x160x40960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/-
  What one grid point of the convolution kernel computes, written once over what it reads.

  The printed body is unrolled: 27 offsets, 4 column blocks of 256 columns each, every product cut in two
  halves of 128 columns. Here the same operations are a recursion over the offsets (`accTo`), one function of the chunk of
  128 columns (`chunk`), and a fold of the running maximum over the chunks and the 8-row groups (`peakTo`). The functions are
  at any element reading `F`; Block.lean shows that the kernel's runs leave exactly these.
-/
module

public import proofs.«01_k».proof.Proof.Gen.KernelIdeal.Value

@[expose] public section

set_option maxRecDepth 16384

noncomputable section

namespace Cert.Proof.Conv

open Cert.KernelIdeal Cert.KernelIdeal.Gen Idealize.ShloMosaic Idealize.ShloMosaic.TcCoe

variable {F : FTy → Type} [FloatOps F]

/-- Half `h` of a product of 256 columns: columns `128 h …` are inside it. -/
theorem half_slices : ∀ h : Fin 2, S160x256.Slices ![0, 128 * h.val] S160x128 :=
  fun h => ⟨rfl, by revert h; decide⟩

/-- Rows `8 j …` of a chunk, 8 of them, are inside it. -/
theorem rows_slices : ∀ j : Fin 20, S160x128.Slices ![8 * j.val, 0] S8x128 :=
  fun j => ⟨rfl, by revert j; decide⟩

section Body

/- What the body reads: the packed neighbour codes by offset and column block, the codes of the scenes themselves by column
   block, the weights and the scales by offset, the scale of the inputs, the bias. -/
variable (gr : Fin 26 → Fin 4 → Vec F S1x1x24x256 .i32) (xr : Fin 4 → Vec F S1x96x256 .fp8e4m3)
  (wr : Fin 27 → Vec F S1x160x96 .fp8e4m3) (sr : Fin 27 → Vec F S1x160x128 .f32) (xs : Elt F .f32) (br : Vec F S160x128 .f32)

/-- A block of packed codes, four to a word, as a matrix of codes. -/
def unpack (g : Vec F S1x1x24x256 .i32) : FVec F S96x256 .fp8e4m3 :=
  bitcastToFloat .fp8e4m3 (bitcast S96x256 8 (shapeCast S24x256 g shapeCasts_S1x1x24x256_S24x256) bitcasts_S24x256_w32_S96x256_w8)

/-- The right operand of offset `k` in column block `n`: the gathered codes of the offset, at the centre the scene's own. -/
def operand (k : Fin 27) (n : Fin 4) : FVec F S96x256 .fp8e4m3 :=
  if h : k.val < 13 then unpack (gr ⟨k.val, by omega⟩ n)
  else if h' : k.val = 13 then shapeCast S96x256 (xr n) shapeCasts_S1x96x256_S96x256
  else unpack (gr ⟨k.val - 1, by omega⟩ n)

/-- The scaled product of offset `k` on half `h` of column block `n`. -/
def part (n : Fin 4) (h : Fin 2) (k : Fin 27) : FVec F S160x128 .f32 :=
  mulf (extractStridedSlice S160x128 ![0, 128 * h.val]
      (matmul dot_S160x96_S96x256_S160x256_1_0_0_1_n_n none (shapeCast S160x96 (wr k) shapeCasts_S1x160x96_S160x96)
        (operand gr xr k n) (constant S160x256 .f32 0x00000000#32)) (half_slices h))
    (shapeCast S160x128 (sr k) shapeCasts_S1x160x128_S160x128)

/-- The scaled products of offsets `0 … k` added in order. -/
def accTo (n : Fin 4) (h : Fin 2) : (k : ℕ) → k < 27 → FVec F S160x128 .f32
  | 0, hk => part gr xr wr sr n h ⟨0, hk⟩
  | k + 1, hk => addf (accTo n h k (by omega)) (part gr xr wr sr n h ⟨k + 1, hk⟩)

/-- The output on chunk `q` of 128 columns: the sum over the offsets, times the scale of the inputs, plus the bias. -/
def chunk (q : Fin 8) : FVec F S160x128 .f32 :=
  addf (mulf (accTo gr xr wr sr ⟨q.val / 2, by omega⟩ ⟨q.val % 2, by omega⟩ 26 (by omega)) (broadcast S160x128 xs)) br

/-- The first `q` stores of the output block, latest first: chunk `i` goes to columns `128 i …`. -/
def chunksTo : (q : ℕ) → q ≤ 8 → List (View.Piece (Elt F) S1x160x1024 .f32)
  | 0, _ => []
  | q + 1, hq => ⟨Rect.unit (s := S1x160x1024) ![0, 0, 128 * q] S1x160x128.size
        (by have hq' : q < 8 := hq; revert hq'; clear hq; revert q; decide),
      shapeCast S1x160x128 (chunk gr xr wr sr xs br ⟨q, hq⟩) shapeCasts_S160x128_S1x160x128⟩ :: chunksTo q (by omega)

/-- The running maximum `a` taken over the magnitudes of the first `j` groups of 8 rows of a chunk `o`. -/
def rowsTo (o : FVec F S160x128 .f32) (a : FVec F S8x128 .f32) : (j : ℕ) → j ≤ 20 → FVec F S8x128 .f32
  | 0, _ => a
  | j + 1, hj => maximumf (rowsTo o a j (by omega)) (absf (extractStridedSlice S8x128 ![8 * j, 0] o (rows_slices ⟨j, hj⟩)))

/-- The maximum, from zero, over the magnitudes of the first `q` chunks. -/
def peakTo : (q : ℕ) → q ≤ 8 → FVec F S8x128 .f32
  | 0, _ => broadcast S8x128 (Scalar.ofBits .f32 0x00000000#32)
  | q + 1, hq => rowsTo (chunk gr xr wr sr xs br ⟨q, hq⟩) (peakTo q (by omega)) 20 (by omega)

end Body

/-! ### What the reads are, over the point's input blocks -/

theorem inb_g : ∀ (k : Fin 26) (n : Fin 4), ∀ a, (![0, k.val, 0, 256 * n.val] : Fin 4 → ℕ) a + S1x1x24x256.size a ≤ S1x26x24x1024.size a := by decide
theorem inb_x : ∀ (n : Fin 4), ∀ a, (![0, 0, 256 * n.val] : Fin 3 → ℕ) a + S1x96x256.size a ≤ S1x96x1024.size a := by decide
theorem inb_w : ∀ (k : Fin 27), ∀ a, (![k.val, 0, 0] : Fin 3 → ℕ) a + S1x160x96.size a ≤ S27x160x96.size a := by decide
theorem inb_s : ∀ (k : Fin 27), ∀ a, (![k.val, 0, 0] : Fin 3 → ℕ) a + S1x160x128.size a ≤ S27x160x128.size a := by decide
theorem inb_s1 : ∀ (k : Fin 27), ∀ a, (![k.val, 0, 0] : Fin 3 → ℕ) a + S1x160x1.size a ≤ S27x160x1.size a := by decide

abbrev rectG (k : Fin 26) (n : Fin 4) : Rect S1x26x24x1024 := Rect.unit ![0, k.val, 0, 256 * n.val] S1x1x24x256.size (inb_g k n)
abbrev rectX (n : Fin 4) : Rect S1x96x1024 := Rect.unit ![0, 0, 256 * n.val] S1x96x256.size (inb_x n)
abbrev rectW (k : Fin 27) : Rect S27x160x96 := Rect.unit ![k.val, 0, 0] S1x160x96.size (inb_w k)
abbrev rectS (k : Fin 27) : Rect S27x160x128 := Rect.unit ![k.val, 0, 0] S1x160x128.size (inb_s k)
abbrev rectS1 (k : Fin 27) : Rect S27x160x1 := Rect.unit ![k.val, 0, 0] S1x160x1.size (inb_s1 k)

/-- Where the running maximum starts: zero everywhere. -/
def zeroTop : Vec F S8x128 .f32 := broadcast S8x128 (Scalar.ofBits (F := F) .f32 0x00000000#32)

/-- A row of scales repeated over the 128 columns of a chunk. -/
def scaleRow (v : Vec F S1x160x1 .f32) : Vec F S1x160x128 .f32 :=
  shapeCast S1x160x128 (broadcastTo S160x128 (shapeCast S160x1 (shapeCast S160x1 v shapeCasts_S1x160x1_S160x1)
    shapeCasts_S160x1_S160x1) broadcasts_S160x1_S160x128) shapeCasts_S160x128_S1x160x128

/-- The bias repeated over the 128 columns of a chunk. -/
def biasCols (v : Vec F S160x1 .f32) : Vec F S160x128 .f32 :=
  shapeCast S160x128 (broadcastTo S160x128 (shapeCast S160x1 v shapeCasts_S160x1_S160x1) broadcasts_S160x1_S160x128)
    shapeCasts_S160x128_S160x128

/-- The first `k` stores of the scratch of scales, latest first: row `i` holds the scales of offset `i`. -/
def scalesTo (s1 : Fin 27 → Vec F S1x160x1 .f32) : (k : ℕ) → k ≤ 27 → List (View.Piece (Elt F) S27x160x128 .f32)
  | 0, _ => []
  | k + 1, hk => ⟨rectS ⟨k, hk⟩, scaleRow (s1 ⟨k, hk⟩)⟩ :: scalesTo s1 k (by omega)

end Cert.Proof.Conv

end
-- ==== Proof.Block.lean ====
/-
  The convolution kernel's runs, as the words of Words.lean.

  A grid point either is the first (case A: it fills the two scratch arrays from the scales and the bias, clears the running maximum,
  then computes) or is a later one (case B: it computes over what the scratch holds).
-/
module

public import proofs.«01_k».proof.Proof.Words

@[expose] public section

set_option maxRecDepth 16384

noncomputable section

namespace Cert.Proof.Conv

open Cert.KernelIdeal Cert.KernelIdeal.Gen Idealize.ShloMosaic Idealize.ShloMosaic.TcCoe

variable {F : FTy → Type} [FloatOps F]

/-- The one-rectangle views of the bias, the bias scratch and the running maximum. -/
abbrev rectBias1 : Rect S160x1 := Rect.unit ![0, 0] S160x1.size inb_S160x1_S160x1_0_0
abbrev rectBias : Rect S160x128 := Rect.unit ![0, 0] S160x128.size inb_S160x128_S160x128_0_0
abbrev rectTop : Rect S8x128 := Rect.unit ![0, 0] S8x128.size inb_S8x128_S8x128_0_0

/-- Row `k` of the scratch of scales, read back after the first `n > k` stores, is the row stored. -/
theorem canon_scalesTo (s1 : Fin 27 → Vec F S1x160x1 .f32) (k : Fin 27) (x : (rectS k).shape.Idx) :
    ∀ (n : ℕ) (hn : n ≤ 27), k.val < n → View.canon (scalesTo s1 n hn) ((rectS k).emb x) = scaleRow (s1 k) x := by
  intro n
  induction n with
  | zero => intro _ h; omega
  | succ n ih =>
    intro hn hk
    by_cases e : k.val = n
    · obtain rfl : k = ⟨n, hn⟩ := Fin.ext e
      exact View.canon_cons_emb _ _ _ x
    · have hx : (rectS k).emb x ∉ (rectS ⟨n, hn⟩).set := by
        rw [Rect.mem_set_unit]
        intro h
        have h0 := h 0
        have hv : ((rectS k).emb x 0).val = k.val + 1 * (x 0).val := rfl
        have hx0 : (x 0).val < 1 := (x 0).isLt
        rw [hv] at h0
        have : n ≤ k.val + 1 * (x 0).val := h0.1
        omega
      exact (View.canon_cons_of_not_mem _ _ hx).trans (ih (by omega) (by omega))

/-- So a load of row `k` of the scratch after all its stores reads the row stored. -/
theorem readCov_scales (arg11 : Memref sig .tc .vmem S27x160x128 .f32) (s1 : Fin 27 → Vec F S1x160x1 .f32) (k : Fin 27) :
    arg11.view.readCov (scalesTo s1 27 le_rfl) (rectS k).toLoadRect = scaleRow (s1 k) := by
  rw [View.readCov_eq_canon']
  funext x
  exact canon_scalesTo s1 k x 27 le_rfl k.isLt

section Runs

variable (c : Dev nD) (i : grid0.Coords) (arg2 : Memref sig .tc .smem S1 .f32) (harg2 : arg2.IsWhole) (arg3 : Memref sig .tc .vmem S1x26x24x1024 .i32) (harg3 : arg3.IsWhole) (arg4 : Memref sig .tc .vmem S1x96x1024 .fp8e4m3) (harg4 : arg4.IsWhole) (arg5 : Memref sig .tc .vmem S27x160x96 .fp8e4m3) (harg5 : arg5.IsWhole) (arg6 : Memref sig .tc .vmem S27x160x1 .f32) (harg6 : arg6.IsWhole) (arg7 : Memref sig .tc .vmem S160x1 .f32) (harg7 : arg7.IsWhole) (arg9 : Memref sig .tc .vmem S1x160x1024 .f32) (harg9 : arg9.IsWhole) (arg10 : Memref sig .tc .vmem S8x128 .f32) (harg10 : arg10.IsWhole) (arg11 : Memref sig .tc .vmem S27x160x128 .f32) (harg11 : arg11.IsWhole) (arg12 : Memref sig .tc .vmem S160x128 .f32) (harg12 : arg12.IsWhole)
  (x0 : Vec F S1 .f32) (x1 : Vec F S1x26x24x1024 .i32) (x2 : Vec F S1x96x1024 .fp8e4m3) (x3 : Vec F S27x160x96 .fp8e4m3) (x4 : Vec F S27x160x1 .f32) (x5 : Vec F S160x1 .f32)

/-! ### The stores of a point, as the executor found them -/

section B

variable (hc0 : ¬cond0_0 i) (xo7 : Vec F S8x128 .f32) (xs0 : Vec F S27x160x128 .f32) (xs1 : Vec F S160x128 .f32)

theorem runB_y :
    (kernelRun0_B c i arg2 harg2 arg3 harg3 arg4 harg4 arg5 harg5 arg6 harg6 arg7 harg7 arg9 harg9 arg10 harg10 arg11 harg11 arg12 harg12 hc0 x0 x1 x2 x3 x4 x5 xo7 xs0 xs1).1 =
      chunksTo (fun k n => arg3.view.readAt (Elt F) (rectG k n).toLoadRect (harg3.unread x1))
        (fun n => arg4.view.readAt (Elt F) (rectX n).toLoadRect (harg4.unread x2))
        (fun k => arg5.view.readAt (Elt F) (rectW k).toLoadRect (harg5.unread x3))
        (fun k => arg11.view.readAt (Elt F) (rectS k).toLoadRect (harg11.unread xs0)) (arg2.view.readAt (Elt F) (Rect.unit (s := S1) ![0] S1.size inb_S1_S1_0).toLoadRect (harg2.unread x0) (Shape.Idx.first (by decide)))
        (arg12.view.readAt (Elt F) rectBias.toLoadRect (harg12.unread xs1)) 8 le_rfl := rfl

theorem runB_top :
    (kernelRun0_B c i arg2 harg2 arg3 harg3 arg4 harg4 arg5 harg5 arg6 harg6 arg7 harg7 arg9 harg9 arg10 harg10 arg11 harg11 arg12 harg12 hc0 x0 x1 x2 x3 x4 x5 xo7 xs0 xs1).2.1 =
      [⟨rectTop, maximumf (shapeCast S8x128 (arg10.view.readAt (Elt F) rectTop.toLoadRect (harg10.unread xo7)) shapeCasts_S8x128_S8x128)
        (peakTo (fun k n => arg3.view.readAt (Elt F) (rectG k n).toLoadRect (harg3.unread x1))
        (fun n => arg4.view.readAt (Elt F) (rectX n).toLoadRect (harg4.unread x2))
        (fun k => arg5.view.readAt (Elt F) (rectW k).toLoadRect (harg5.unread x3))
          (fun k => arg11.view.readAt (Elt F) (rectS k).toLoadRect (harg11.unread xs0)) (arg2.view.readAt (Elt F) (Rect.unit (s := S1) ![0] S1.size inb_S1_S1_0).toLoadRect (harg2.unread x0) (Shape.Idx.first (by decide)))
          (arg12.view.readAt (Elt F) rectBias.toLoadRect (harg12.unread xs1)) 8 le_rfl)⟩] := rfl

end B

section A

variable (hc0 : cond0_0 i)

theorem runA_scales :
    (kernelRun0_A c i arg2 harg2 arg3 harg3 arg4 harg4 arg5 harg5 arg6 harg6 arg7 harg7 arg9 harg9 arg10 harg10 arg11 harg11 arg12 harg12 hc0 x0 x1 x2 x3 x4 x5).2.2.1 = (scalesTo (fun k => arg6.view.readAt (Elt F) (rectS1 k).toLoadRect (harg6.unread x4)) 27 le_rfl) := rfl

theorem runA_bias :
    (kernelRun0_A c i arg2 harg2 arg3 harg3 arg4 harg4 arg5 harg5 arg6 harg6 arg7 harg7 arg9 harg9 arg10 harg10 arg11 harg11 arg12 harg12 hc0 x0 x1 x2 x3 x4 x5).2.2.2.1 = [⟨rectBias, (biasCols (arg7.view.readAt (Elt F) rectBias1.toLoadRect (harg7.unread x5)))⟩] := rfl

theorem runA_y :
    (kernelRun0_A c i arg2 harg2 arg3 harg3 arg4 harg4 arg5 harg5 arg6 harg6 arg7 harg7 arg9 harg9 arg10 harg10 arg11 harg11 arg12 harg12 hc0 x0 x1 x2 x3 x4 x5).1 =
      chunksTo (fun k n => arg3.view.readAt (Elt F) (rectG k n).toLoadRect (harg3.unread x1))
        (fun n => arg4.view.readAt (Elt F) (rectX n).toLoadRect (harg4.unread x2))
        (fun k => arg5.view.readAt (Elt F) (rectW k).toLoadRect (harg5.unread x3))
        (fun k => arg11.view.readCov (scalesTo (fun k => arg6.view.readAt (Elt F) (rectS1 k).toLoadRect (harg6.unread x4)) 27 le_rfl) (rectS k).toLoadRect)
        (arg2.view.readAt (Elt F) (Rect.unit (s := S1) ![0] S1.size inb_S1_S1_0).toLoadRect (harg2.unread x0) (Shape.Idx.first (by decide))) (arg12.view.readCov [⟨rectBias, (biasCols (arg7.view.readAt (Elt F) rectBias1.toLoadRect (harg7.unread x5)))⟩] rectBias.toLoadRect) 8 le_rfl := rfl

theorem runA_top :
    (kernelRun0_A c i arg2 harg2 arg3 harg3 arg4 harg4 arg5 harg5 arg6 harg6 arg7 harg7 arg9 harg9 arg10 harg10 arg11 harg11 arg12 harg12 hc0 x0 x1 x2 x3 x4 x5).2.1 =
      [⟨rectTop, maximumf (shapeCast S8x128 (arg10.view.readCov (Val := Elt F) [⟨rectTop, zeroTop⟩] rectTop.toLoadRect) shapeCasts_S8x128_S8x128)
        (peakTo (fun k n => arg3.view.readAt (Elt F) (rectG k n).toLoadRect (harg3.unread x1))
        (fun n => arg4.view.readAt (Elt F) (rectX n).toLoadRect (harg4.unread x2))
        (fun k => arg5.view.readAt (Elt F) (rectW k).toLoadRect (harg5.unread x3))
          (fun k => arg11.view.readCov (scalesTo (fun k => arg6.view.readAt (Elt F) (rectS1 k).toLoadRect (harg6.unread x4)) 27 le_rfl) (rectS k).toLoadRect)
          (arg2.view.readAt (Elt F) (Rect.unit (s := S1) ![0] S1.size inb_S1_S1_0).toLoadRect (harg2.unread x0) (Shape.Idx.first (by decide))) (arg12.view.readCov [⟨rectBias, (biasCols (arg7.view.readAt (Elt F) rectBias1.toLoadRect (harg7.unread x5)))⟩] rectBias.toLoadRect) 8 le_rfl)⟩,
        ⟨rectTop, zeroTop⟩] := rfl

end A

/-! ### What a point leaves, over its input blocks -/

variable (hA : cond0_0 i) (hB : ¬cond0_0 i) (xo7 : Vec F S8x128 .f32) (xs0 : Vec F S27x160x128 .f32) (xs1 : Vec F S160x128 .f32)

/-- A later point's block of outputs: the eight chunks, scales and bias from the scratch arrays. -/
theorem outB_y :
    out0_B_6 c i arg2 harg2 arg3 harg3 arg4 harg4 arg5 harg5 arg6 harg6 arg7 harg7 arg9 harg9 arg10 harg10 arg11 harg11 arg12 harg12 hB x0 x1 x2 x3 x4 x5 xo7 xs0 xs1 =
      View.canon (chunksTo (fun k n => View.ld x1 (rectG k n)) (fun n => View.ld x2 (rectX n)) (fun k => View.ld x3 (rectW k)) (fun k => View.ld xs0 (rectS k)) (x0 (Shape.Idx.first (by decide))) xs1 8 le_rfl) := by
  unfold out0_B_6
  rw [View.read_writes_junk_eq_canon, runB_y]
  simp only [View.readAt_eq_ld, harg2.read_unread, harg3.read_unread, harg4.read_unread, harg5.read_unread, harg11.read_unread,
    harg12.read_unread]
  rw [View.ld_unit_zero (by funext a; fin_cases a <;> rfl), View.ld_unit_zero (by funext a; fin_cases a <;> rfl)]

/-- A later point's running maximum: the one before, and the eight chunks'. -/
theorem outB_top :
    out0_B_7 c i arg2 harg2 arg3 harg3 arg4 harg4 arg5 harg5 arg6 harg6 arg7 harg7 arg9 harg9 arg10 harg10 arg11 harg11 arg12 harg12 hB x0 x1 x2 x3 x4 x5 xo7 xs0 xs1 =
      maximumf xo7 (peakTo (fun k n => View.ld x1 (rectG k n)) (fun n => View.ld x2 (rectX n)) (fun k => View.ld x3 (rectW k)) (fun k => View.ld xs0 (rectS k)) (x0 (Shape.Idx.first (by decide))) xs1 8 le_rfl) := by
  unfold out0_B_7
  rw [View.read_writes_junk_eq_canon, runB_top, View.canon_unit_zero (by funext a; fin_cases a <;> rfl)]
  simp only [View.readAt_eq_ld, harg2.read_unread, harg3.read_unread, harg4.read_unread, harg5.read_unread, harg11.read_unread,
    harg12.read_unread, harg10.read_unread]
  rw [View.ld_unit_zero (by funext a; fin_cases a <;> rfl), View.ld_unit_zero (by funext a; fin_cases a <;> rfl),
    View.ld_unit_zero (by funext a; fin_cases a <;> rfl)]
  exact congrArg (maximumf · _) (shapeCast_self xo7 _)

/-- The first point's scratch of scales: row `k` is the scale of offset `k` repeated over 128 columns. -/
theorem soutA_scales (k : Fin 27) :
    View.ld (sout0_A_0 c i arg2 harg2 arg3 harg3 arg4 harg4 arg5 harg5 arg6 harg6 arg7 harg7 arg9 harg9 arg10 harg10 arg11 harg11 arg12 harg12 hA x0 x1 x2 x3 x4 x5) (rectS k) = scaleRow (View.ld x4 (rectS1 k)) := by
  unfold sout0_A_0
  rw [View.read_writes_junk_eq_canon, runA_scales]
  simp only [View.readAt_eq_ld, harg6.read_unread]
  funext x
  exact canon_scalesTo _ k x 27 le_rfl k.isLt

/-- The first point's scratch of the bias: the bias repeated over 128 columns. -/
theorem soutA_bias :
    sout0_A_1 c i arg2 harg2 arg3 harg3 arg4 harg4 arg5 harg5 arg6 harg6 arg7 harg7 arg9 harg9 arg10 harg10 arg11 harg11 arg12 harg12 hA x0 x1 x2 x3 x4 x5 = biasCols x5 := by
  unfold sout0_A_1
  rw [View.read_writes_junk_eq_canon, runA_bias, View.canon_unit_zero (by funext a; fin_cases a <;> rfl)]
  simp only [View.readAt_eq_ld, harg7.read_unread]
  rw [View.ld_unit_zero (by funext a; fin_cases a <;> rfl)]

/-- The first point's block of outputs: the eight chunks, scales and bias those it has just put into the scratch arrays. -/
theorem outA_y :
    out0_A_6 c i arg2 harg2 arg3 harg3 arg4 harg4 arg5 harg5 arg6 harg6 arg7 harg7 arg9 harg9 arg10 harg10 arg11 harg11 arg12 harg12 hA x0 x1 x2 x3 x4 x5 =
      View.canon (chunksTo (fun k n => View.ld x1 (rectG k n)) (fun n => View.ld x2 (rectX n)) (fun k => View.ld x3 (rectW k)) (fun k => scaleRow (View.ld x4 (rectS1 k))) (x0 (Shape.Idx.first (by decide))) (biasCols x5) 8 le_rfl) := by
  unfold out0_A_6
  rw [View.read_writes_junk_eq_canon, runA_y]
  simp only [readCov_scales]
  rw [View.readCov_unit_zero _ (by funext a; fin_cases a <;> rfl)]
  simp only [View.readAt_eq_ld, harg2.read_unread, harg3.read_unread, harg4.read_unread, harg5.read_unread, harg6.read_unread,
    harg7.read_unread]
  rw [View.ld_unit_zero (by funext a; fin_cases a <;> rfl), View.ld_unit_zero (by funext a; fin_cases a <;> rfl)]

/-- The first point's running maximum: zero, and the eight chunks'. -/
theorem outA_top :
    out0_A_7 c i arg2 harg2 arg3 harg3 arg4 harg4 arg5 harg5 arg6 harg6 arg7 harg7 arg9 harg9 arg10 harg10 arg11 harg11 arg12 harg12 hA x0 x1 x2 x3 x4 x5 =
      maximumf zeroTop (peakTo (fun k n => View.ld x1 (rectG k n)) (fun n => View.ld x2 (rectX n)) (fun k => View.ld x3 (rectW k)) (fun k => scaleRow (View.ld x4 (rectS1 k))) (x0 (Shape.Idx.first (by decide))) (biasCols x5) 8 le_rfl) := by
  unfold out0_A_7
  rw [View.read_writes_junk_eq_canon, runA_top, View.canon_cons_unit_zero (by funext a; fin_cases a <;> rfl),
    View.readCov_unit_zero _ (by funext a; fin_cases a <;> rfl)]
  simp only [readCov_scales]
  rw [View.readCov_unit_zero _ (by funext a; fin_cases a <;> rfl)]
  simp only [View.readAt_eq_ld, harg2.read_unread, harg3.read_unread, harg4.read_unread, harg5.read_unread, harg6.read_unread,
    harg7.read_unread]
  rw [View.ld_unit_zero (by funext a; fin_cases a <;> rfl), View.ld_unit_zero (by funext a; fin_cases a <;> rfl)]
  exact congrArg (maximumf · _) (shapeCast_self zeroTop _)

end Runs

end Cert.Proof.Conv

end
-- ==== Proof.Codes.lean ====
/-
  The mathematics both programs compute, written on plain functions of indices: one value of the convolution as a sum over the
  27 offsets and the 96 input channels, and the byte of a packed word that is a channel's code.
-/
module

public import Idealize.ShloMosaic.Lib.ValueIdx
public import Idealize.ShloMosaic.Lib.BitcastPair
public import Idealize.ShloMosaic.Lib.Pipeline.Value

@[expose] public section

set_option maxRecDepth 16384

noncomputable section

namespace Cert.Proof.Conv

open Idealize.ShloMosaic Idealize.ShloMosaic.ValueIdx
open scoped BigOperators

/-- Byte `r` of a word, the lowest first. -/
def byte (w : BitVec 32) (r : ℕ) : BitVec 8 := w.extractLsb' (8 * r) 8

/-- A 32-bit word reinterpreted at 8 bits: row `r` of the result is byte `r % 4` of row `r / 4`, every other coordinate its own. -/
theorem bitcast_32_8 {s t : Shape} (x : s.Idx → BitVec 32) (h : s.Bitcasts 32 t 8) (j : t.Idx) (i : s.Idx)
    (hi : ∀ a : Fin s.rank, (i a).val = if a.val + 2 = s.rank then t.row j / 4 else (j (a.cast h.1.symm)).val) :
    bitcast t 8 x h j = byte (x i) (t.row j % 4) := by
  apply BitVec.eq_of_getLsbD_eq
  intro q hq
  rw [bitcast_getLsbD x h j q hq (by decide)]
  have e : (t.row j * 8 + q) / 32 = t.row j / 4 := by omega
  have e' : (t.row j * 8 + q) % 32 = 8 * (t.row j % 4) + q := by omega
  rw [e', byte, BitVec.getLsbD_extractLsb']
  simp only [hq, decide_true, Bool.true_and]
  congr 2
  funext a
  apply Fin.ext
  rw [hi a]
  by_cases ha : a.val + 2 = s.rank
  · rw [if_pos ha, Shape.Bitcasts.srcIdx_row _ _ _ _ _ ha, e]
  · rw [if_neg ha, Shape.Bitcasts.srcIdx_other _ _ _ _ _ ha]

/-- The reinterpretation of a matrix of words, read at a row and a column. -/
theorem bitcast_mat {n m : ℕ} (x : (⟨2, ![n, m]⟩ : Shape).Idx → BitVec 32)
    (h : (⟨2, ![n, m]⟩ : Shape).Bitcasts 32 ⟨2, ![4 * n, m]⟩ 8) (r : Fin (4 * n)) (p : Fin m) :
    bitcast ⟨2, ![4 * n, m]⟩ 8 x h (ix2 r p) = byte (x (ix2 ⟨r.val / 4, by omega⟩ p)) (r.val % 4) := by
  refine bitcast_32_8 x h (ix2 r p) (ix2 ⟨r.val / 4, by omega⟩ p) fun a => ?_
  match a with
  | ⟨0, _⟩ => rfl
  | ⟨1, _⟩ => rfl

/-- The reinterpretation of a stack of matrices of words, read at a matrix, a row and a column. -/
theorem bitcast_stack {l n m : ℕ} (x : (⟨3, ![l, n, m]⟩ : Shape).Idx → BitVec 32)
    (h : (⟨3, ![l, n, m]⟩ : Shape).Bitcasts 32 ⟨3, ![l, 4 * n, m]⟩ 8) (k : Fin l) (r : Fin (4 * n)) (p : Fin m) :
    bitcast ⟨3, ![l, 4 * n, m]⟩ 8 x h (ix3 k r p) = byte (x (ix3 k ⟨r.val / 4, by omega⟩ p)) (r.val % 4) := by
  refine bitcast_32_8 x h (ix3 k r p) (ix3 k ⟨r.val / 4, by omega⟩ p) fun a => ?_
  match a with
  | ⟨0, _⟩ => rfl
  | ⟨1, _⟩ => rfl
  | ⟨2, _⟩ => rfl

/-! ### Dropping and adding leading axes of size one -/

theorem cast3_2 {α : Type} {n m : ℕ} (v : (⟨3, ![1, n, m]⟩ : Shape).Idx → α)
    (h : (⟨3, ![1, n, m]⟩ : Shape).ShapeCasts ⟨2, ![n, m]⟩) (i : Fin n) (j : Fin m) :
    shapeCast ⟨2, ![n, m]⟩ v h (ix2 i j) = v (ix3 0 i j) :=
  shapeCast_apply v h (ix2 i j) (ix3 0 i j) (by
    rw [Shape.rowMajor_val_three, Shape.rowMajor_val_two]
    show (0 * n + i.val) * m + j.val = i.val * m + j.val
    rw [Nat.zero_mul, Nat.zero_add])

theorem cast2_3 {α : Type} {n m : ℕ} (v : (⟨2, ![n, m]⟩ : Shape).Idx → α)
    (h : (⟨2, ![n, m]⟩ : Shape).ShapeCasts ⟨3, ![1, n, m]⟩) (u : Fin 1) (i : Fin n) (j : Fin m) :
    shapeCast ⟨3, ![1, n, m]⟩ v h (ix3 u i j) = v (ix2 i j) :=
  shapeCast_apply v h (ix3 u i j) (ix2 i j) (by
    rw [Shape.rowMajor_val_three, Shape.rowMajor_val_two]
    have hu : u.val = 0 := by omega
    show i.val * m + j.val = (u.val * n + i.val) * m + j.val
    rw [hu, Nat.zero_mul, Nat.zero_add])

theorem cast4_2 {α : Type} {n m : ℕ} (v : (⟨4, ![1, 1, n, m]⟩ : Shape).Idx → α)
    (h : (⟨4, ![1, 1, n, m]⟩ : Shape).ShapeCasts ⟨2, ![n, m]⟩) (i : Fin n) (j : Fin m) :
    shapeCast ⟨2, ![n, m]⟩ v h (ix2 i j) = v (ix4 0 0 i j) :=
  shapeCast_apply v h (ix2 i j) (ix4 0 0 i j) (by
    rw [Shape.rowMajor_val_four, Shape.rowMajor_val_two]
    show ((0 * 1 + 0) * n + i.val) * m + j.val = i.val * m + j.val
    simp)

theorem cast4_3 {α : Type} {l n m : ℕ} (v : (⟨4, ![1, l, n, m]⟩ : Shape).Idx → α)
    (h : (⟨4, ![1, l, n, m]⟩ : Shape).ShapeCasts ⟨3, ![l, n, m]⟩) (k : Fin l) (i : Fin n) (j : Fin m) :
    shapeCast ⟨3, ![l, n, m]⟩ v h (ix3 k i j) = v (ix4 0 k i j) :=
  shapeCast_apply v h (ix3 k i j) (ix4 0 k i j) (by
    rw [Shape.rowMajor_val_four, Shape.rowMajor_val_three]
    show ((0 * l + k.val) * n + i.val) * m + j.val = (k.val * n + i.val) * m + j.val
    rw [Nat.zero_mul, Nat.zero_add])

/-- The number a byte stands for in the 8-bit format. -/
def codeOf (b : BitVec 8) : EReal := Ideal.ofBits .fp8e4m3 b

section Spec

/- The arrays: packed gathered codes (scene, offset, four channels to a word, position), the scenes' own codes, the weights
   (offset, output channel, input channel), their scales, the scale of the inputs, the bias. -/
variable (g : (⟨4, ![4, 26, 24, 40960]⟩ : Shape).Idx → BitVec 32) (x : (⟨3, ![16, 96, 40960]⟩ : Shape).Idx → EReal)
  (w : (⟨3, ![27, 160, 96]⟩ : Shape).Idx → EReal) (s : (⟨3, ![27, 160, 1]⟩ : Shape).Idx → EReal) (a : EReal)
  (b : (⟨2, ![160, 1]⟩ : Shape).Idx → EReal)

/-- The input of scene `i` at offset `k`, channel `c`, position `v`: the gathered code, at the centre (`k = 13`) the scene's own. -/
def input (i : Fin 4) (k : Fin 27) (c : Fin 96) (v : Fin 40960) : EReal :=
  if h : k.val < 13 then codeOf (byte (g (ix4 i ⟨k.val, by omega⟩ ⟨c.val / 4, by omega⟩ v)) (c.val % 4))
  else if k.val = 13 then x (ix3 ⟨i.val, by omega⟩ c v)
  else codeOf (byte (g (ix4 i ⟨k.val - 1, by omega⟩ ⟨c.val / 4, by omega⟩ v)) (c.val % 4))

/-- One value of the convolution: the products summed over the channels, scaled by offset, summed over the offsets, times the
    scale of the inputs, plus the bias. -/
def conv (i : Fin 4) (o : Fin 160) (v : Fin 40960) : EReal :=
  (∑ k : Fin 27, (∑ c : Fin 96, w (ix3 k o c) * input g x i k c v) * s (ix3 k o 0)) * a + b (ix2 o 0)

/-- `z` bounds zero and the magnitude of every value in the rows `r` modulo 8 and the columns `l` modulo 128. -/
def Bounds (r : Fin 8) (l : Fin 128) (z : EReal) : Prop :=
  0 ≤ z ∧ ∀ (i : Fin 4) (o : Fin 160) (v : Fin 40960), o.val % 8 = r.val → v.val % 128 = l.val →
    max (conv g x w s a b i o v) (-(conv g x w s a b i o v)) ≤ z

end Spec

end Cert.Proof.Conv

end
-- ==== Proof.Chunk.lean ====
/-
  One grid point of the convolution kernel over the extended reals, read at an index: a chunk of the output is the sum over
  offsets and channels, the chunks together are the output block, and the running maximum is bounded exactly by what bounds the
  magnitudes it has seen.
-/
module

public import proofs.«01_k».proof.Proof.Words
public import proofs.«01_k».proof.Proof.Codes
public import Idealize.ShloMosaic.Lib.MatmulPlain

@[expose] public section

set_option maxRecDepth 16384

noncomputable section

namespace Cert.Proof.Conv

open Cert.KernelIdeal Cert.KernelIdeal.Gen Idealize.ShloMosaic Idealize.ShloMosaic.TcCoe Idealize.ShloMosaic.ValueIdx
open scoped BigOperators

section Body

variable (gr : Fin 26 → Fin 4 → Vec Ideal S1x1x24x256 .i32) (xr : Fin 4 → Vec Ideal S1x96x256 .fp8e4m3)
  (wr : Fin 27 → Vec Ideal S1x160x96 .fp8e4m3) (sr : Fin 27 → Vec Ideal S1x160x128 .f32) (xs : Elt Ideal .f32)
  (br : Vec Ideal S160x128 .f32)

/-- A block of packed codes at channel `c`, column `p`. -/
theorem unpack_apply (g : Vec Ideal S1x1x24x256 .i32) (c : Fin 96) (p : Fin 256) :
    unpack g (ix2 c p) = codeOf (byte (g (ix4 0 0 ⟨c.val / 4, by omega⟩ p)) (c.val % 4)) := by
  have e := bitcast_mat (n := 24) (m := 256) (shapeCast S24x256 g shapeCasts_S1x1x24x256_S24x256)
    bitcasts_S24x256_w32_S96x256_w8 c p
  refine (congrArg (Ideal.ofBits .fp8e4m3) e).trans ?_
  rw [cast4_2]
  rfl

/-- The right operand at channel `c`, column `p`. -/
def operandAt (k : Fin 27) (n : Fin 4) (c : Fin 96) (p : Fin 256) : EReal :=
  if h : k.val < 13 then codeOf (byte (gr ⟨k.val, by omega⟩ n (ix4 0 0 ⟨c.val / 4, by omega⟩ p)) (c.val % 4))
  else if k.val = 13 then xr n (ix3 0 c p)
  else codeOf (byte (gr ⟨k.val - 1, by omega⟩ n (ix4 0 0 ⟨c.val / 4, by omega⟩ p)) (c.val % 4))

theorem operand_apply (k : Fin 27) (n : Fin 4) (c : Fin 96) (p : Fin 256) :
    operand gr xr k n (ix2 c p) = operandAt gr xr k n c p := by
  unfold operand operandAt
  by_cases h : k.val < 13
  · rw [dif_pos h, dif_pos h, unpack_apply]
  · rw [dif_neg h, dif_neg h]
    by_cases h' : k.val = 13
    · rw [dif_pos h', if_pos h']
      exact cast3_2 (xr n) shapeCasts_S1x96x256_S96x256 c p
    · rw [dif_neg h', if_neg h', unpack_apply]

/-- The scaled product of one offset at row `o`, column `p` of a chunk. -/
theorem part_apply (n : Fin 4) (h : Fin 2) (k : Fin 27) (o : Fin 160) (p : Fin 128) :
    part gr xr wr sr n h k (ix2 o p)
      = (∑ c : Fin 96, (wr k (ix3 0 o c) : EReal) * operandAt gr xr k n c ⟨128 * h.val + p.val, by omega⟩) * sr k (ix3 0 o p) := by
  unfold part
  rw [mulf_apply]
  rw [extractStridedSlice_apply _ _ (half_slices h) (ix2 o p) (ix2 o ⟨128 * h.val + p.val, by omega⟩) (fun a => by
    match a with
    | ⟨0, _⟩ => exact (Nat.zero_add _).symm
    | ⟨1, _⟩ => rfl)]
  rw [cast3_2 (sr k) shapeCasts_S1x160x128_S160x128 o p]
  have hm := Ideal.matmul_plain_apply (M := 160) (K := 96) (N := 256) (φ₁ := .fp8e4m3) (φ₂ := .fp8e4m3) none
    (shapeCast S160x96 (wr k) shapeCasts_S1x160x96_S160x96) (operand gr xr k n) (constant (F := Ideal) S160x256 .f32 0x00000000#32)
    o ⟨128 * h.val + p.val, by omega⟩
  refine congrArg (· * (sr k (ix3 0 o p) : EReal)) (hm.trans ?_)
  have hz : (constant (F := Ideal) S160x256 .f32 0x00000000#32 (ix2 o ⟨128 * h.val + p.val, by omega⟩) : EReal) = 0 := by
    simp [constant_apply, Ideal.ofBits, Ideal.ieee]
  rw [hz, zero_add]
  refine Finset.sum_congr rfl fun c _ => ?_
  rw [operand_apply, cast3_2 (wr k) shapeCasts_S1x160x96_S160x96 o c]

theorem accTo_apply (n : Fin 4) (h : Fin 2) (j : S160x128.Idx) : ∀ (k : ℕ) (hk : k < 27),
    (accTo gr xr wr sr n h k hk j : EReal) = ∑ i : Fin (k + 1), part gr xr wr sr n h ⟨i.val, by omega⟩ j
  | 0, hk => by simp [accTo]
  | k + 1, hk => by
    rw [Fin.sum_univ_castSucc]
    show (accTo gr xr wr sr n h k (by omega) j : EReal) + part gr xr wr sr n h ⟨k + 1, hk⟩ j = _
    rw [accTo_apply n h j k (by omega)]
    rfl

/-- A chunk at row `o`, column `p`. -/
def chunkAt (q : Fin 8) (o : Fin 160) (p : Fin 128) : EReal :=
  (∑ k : Fin 27, (∑ c : Fin 96, (wr k (ix3 0 o c) : EReal)
      * operandAt gr xr k ⟨q.val / 2, by omega⟩ c ⟨128 * (q.val % 2) + p.val, by omega⟩) * sr k (ix3 0 o p)) * xs + br (ix2 o p)

theorem chunk_apply (q : Fin 8) (o : Fin 160) (p : Fin 128) :
    chunk gr xr wr sr xs br q (ix2 o p) = chunkAt gr xr wr sr xs br q o p := by
  unfold chunk chunkAt
  rw [addf_apply, mulf_apply, accTo_apply, broadcast_apply]
  exact congrArg (fun z : EReal => z * xs + br (ix2 o p)) (Finset.sum_congr rfl fun k _ => part_apply gr xr wr sr _ _ k o p)

/-- The output block as a function of its index. -/
def blockAt (j : S1x160x1024.Idx) : EReal :=
  chunkAt gr xr wr sr xs br ⟨(j 2).val / 128, by have : (j 2).val < 1024 := (j 2).isLt; omega⟩ (j 1)
    ⟨(j 2).val % 128, Nat.mod_lt _ (by decide)⟩

/-- Chunk `q` of 128 columns is inside the block. -/
theorem inb_chunk : ∀ q : ℕ, q < 8 → ∀ a, (![0, 0, 128 * q] : Fin 3 → ℕ) a + S1x160x128.size a ≤ S1x160x1024.size a := by decide

/-- One stored chunk is the block at the stored columns. -/
theorem chunk_piece (q : ℕ) (hq : q < 8) (hr : ∀ a, (![0, 0, 128 * q] : Fin 3 → ℕ) a + S1x160x128.size a ≤ S1x160x1024.size a) (y : S1x160x128.Idx) :
    shapeCast S1x160x128 (chunk gr xr wr sr xs br ⟨q, hq⟩) shapeCasts_S160x128_S1x160x128 y
      = blockAt gr xr wr sr xs br ((Rect.unit (s := S1x160x1024) ![0, 0, 128 * q] S1x160x128.size hr).emb y) := by
  obtain ⟨u, o, p, rfl⟩ : ∃ (u : Fin 1) (o : Fin 160) (p : Fin 128), y = ix3 u o p := ⟨_, _, _, eq_ix3 y⟩
  rw [cast2_3 _ shapeCasts_S160x128_S1x160x128 u o p, chunk_apply]
  unfold blockAt
  have e0 : ((Rect.unit (s := S1x160x1024) ![0, 0, 128 * q] S1x160x128.size hr).emb (ix3 u o p) 1).val = 0 + o.val := by
    show 0 + 1 * o.val = _; omega
  have e1 : ((Rect.unit (s := S1x160x1024) ![0, 0, 128 * q] S1x160x128.size hr).emb (ix3 u o p) 2).val = 128 * q + p.val := by
    show 128 * q + 1 * p.val = _; omega
  congr 1
  · apply Fin.ext
    show q = _ / 128
    rw [e1]; omega
  · apply Fin.ext
    rw [e0]; omega
  · apply Fin.ext
    show p.val = _ % 128
    rw [e1]; omega

theorem chunksTo_pieces : ∀ (q : ℕ) (hq : q ≤ 8), ∀ P ∈ chunksTo gr xr wr sr xs br q hq, ∀ y,
    P.2 y = blockAt gr xr wr sr xs br (P.1.emb y)
  | 0, _, P, hP, _ => by cases hP
  | q + 1, hq, P, hP, y => by
    rcases List.mem_cons.1 hP with rfl | hP
    · exact chunk_piece gr xr wr sr xs br q hq (inb_chunk q hq) y
    · exact chunksTo_pieces q (by omega) P hP y

theorem chunksTo_cover : ∀ (q : ℕ) (hq : q ≤ 8) (j : S1x160x1024.Idx), (j 2).val < 128 * q →
    ∃ P ∈ chunksTo gr xr wr sr xs br q hq, j ∈ P.1.set
  | 0, _, j, hj => by omega
  | q + 1, hq, j, hj => by
    by_cases h : (j 2).val < 128 * q
    · obtain ⟨P, hP, hm⟩ := chunksTo_cover q (by omega) j h
      exact ⟨P, List.mem_cons_of_mem _ hP, hm⟩
    · refine ⟨_, List.mem_cons_self, ?_⟩
      refine (Rect.mem_set_unit (inb := inb_chunk q hq) (i := j)).2 ?_
      intro a
      match a with
      | ⟨0, _⟩ => exact ⟨Nat.zero_le _, (j 0).isLt⟩
      | ⟨1, _⟩ => exact ⟨Nat.zero_le _, by show (j 1).val < 0 + 160; have := (j 1).isLt; have h1 : (j 1).val < 160 := this; omega⟩
      | ⟨2, _⟩ => exact ⟨by show 128 * q ≤ (j 2).val; omega, by show (j 2).val < 128 * q + 128; omega⟩

/-- The eight stores together are the block. -/
theorem canon_chunks (j : S1x160x1024.Idx) :
    View.canon (chunksTo gr xr wr sr xs br 8 le_rfl) j = blockAt gr xr wr sr xs br j :=
  View.canon_apply_of_pieces (blockAt gr xr wr sr xs br) _ (chunksTo_pieces gr xr wr sr xs br 8 le_rfl) j
    (chunksTo_cover gr xr wr sr xs br 8 le_rfl j (j 2).isLt)

/-- The magnitude of an extended real. -/
def mag (z : EReal) : EReal := max z (-z)

theorem rowsTo_le (o : FVec Ideal S160x128 .f32) (a : FVec Ideal S8x128 .f32) (r : Fin 8) (l : Fin 128) (z : EReal) :
    ∀ (j : ℕ) (hj : j ≤ 20), (rowsTo o a j hj (ix2 r l) : EReal) ≤ z ↔
      (a (ix2 r l) : EReal) ≤ z ∧ ∀ i : Fin 160, i.val % 8 = r.val → i.val < 8 * j → mag (o (ix2 i l)) ≤ z
  | 0, _ => by
    refine ⟨fun h => ⟨h, fun i _ hi => absurd hi (by omega)⟩, fun h => h.1⟩
  | j + 1, hj => by
    have hm : (rowsTo o a (j + 1) hj (ix2 r l) : EReal)
        = max (rowsTo o a j (by omega) (ix2 r l) : EReal) (mag (o (ix2 ⟨8 * j + r.val, by omega⟩ l))) := by
      show max (rowsTo o a j (by omega) (ix2 r l) : EReal)
        (mag (extractStridedSlice S8x128 ![8 * j, 0] o (rows_slices ⟨j, hj⟩) (ix2 r l))) = _
      rw [extractStridedSlice_apply _ _ (rows_slices ⟨j, hj⟩) (ix2 r l) (ix2 ⟨8 * j + r.val, by omega⟩ l) (fun a => by
        match a with
        | ⟨0, _⟩ => rfl
        | ⟨1, _⟩ => exact (Nat.zero_add _).symm)]
    rw [hm, max_le_iff, rowsTo_le o a r l z j (by omega)]
    constructor
    · rintro ⟨⟨h0, h1⟩, h2⟩
      refine ⟨h0, fun i hi hlt => ?_⟩
      by_cases h : i.val < 8 * j
      · exact h1 i hi h
      · have : i = ⟨8 * j + r.val, by omega⟩ := Fin.ext (by show i.val = 8 * j + r.val; omega)
        rw [this]; exact h2
    · rintro ⟨h0, h1⟩
      exact ⟨⟨h0, fun i hi hlt => h1 i hi (by omega)⟩, h1 _ (by show (8 * j + r.val) % 8 = r.val; omega) (by show 8 * j + r.val < _; omega)⟩

/-- What bounds the maximum over the first `q` chunks. -/
theorem peakTo_le (r : Fin 8) (l : Fin 128) (z : EReal) : ∀ (q : ℕ) (hq : q ≤ 8),
    (peakTo gr xr wr sr xs br q hq (ix2 r l) : EReal) ≤ z ↔
      0 ≤ z ∧ ∀ (i : Fin 160) (u : Fin 8), i.val % 8 = r.val → u.val < q → mag (chunkAt gr xr wr sr xs br u i l) ≤ z
  | 0, _ => by
    have hz : (peakTo gr xr wr sr xs br 0 (Nat.zero_le _) (ix2 r l) : EReal) = 0 := by
      show Ideal.ofBits .f32 0x00000000#32 = 0
      simp [Ideal.ofBits, Ideal.ieee]
    rw [hz]
    exact ⟨fun h => ⟨h, fun _ _ _ hu => absurd hu (by omega)⟩, fun h => h.1⟩
  | q + 1, hq => by
    show (rowsTo (chunk gr xr wr sr xs br ⟨q, hq⟩) (peakTo gr xr wr sr xs br q (by omega)) 20 (by omega) (ix2 r l) : EReal) ≤ z ↔ _
    rw [rowsTo_le, peakTo_le r l z q (by omega)]
    constructor
    · rintro ⟨⟨h0, h1⟩, h2⟩
      refine ⟨h0, fun i u hi hu => ?_⟩
      by_cases h : u.val < q
      · exact h1 i u hi h
      · have : u = ⟨q, hq⟩ := Fin.ext (by show u.val = q; omega)
        rw [this, ← chunk_apply]; exact h2 i hi (by omega)
    · rintro ⟨h0, h1⟩
      exact ⟨⟨h0, fun i u hi hu => h1 i u hi (by omega)⟩, fun i hi _ => by rw [chunk_apply]; exact h1 i ⟨q, hq⟩ hi (by show q < q + 1; omega)⟩

end Body

/-- A row of scales repeated, at an index. -/
theorem scaleRow_apply (v : Vec Ideal S1x160x1 .f32) (o : Fin 160) (p : Fin 128) :
    scaleRow v (ix3 0 o p) = v (ix3 0 o 0) := by
  unfold scaleRow
  rw [cast2_3 _ shapeCasts_S160x128_S1x160x128 0 o p,
    broadcastTo_apply _ broadcasts_S160x1_S160x128 (ix2 o p) (ix2 o 0) (fun a => by
      match a with
      | ⟨0, _⟩ => rfl
      | ⟨1, _⟩ => rfl),
    shapeCast_self, cast3_2 v shapeCasts_S1x160x1_S160x1 o 0]

/-- The bias repeated, at an index. -/
theorem biasCols_apply (v : Vec Ideal S160x1 .f32) (o : Fin 160) (p : Fin 128) :
    biasCols v (ix2 o p) = v (ix2 o 0) := by
  unfold biasCols
  rw [shapeCast_self,
    broadcastTo_apply _ broadcasts_S160x1_S160x128 (ix2 o p) (ix2 o 0) (fun a => by
      match a with
      | ⟨0, _⟩ => rfl
      | ⟨1, _⟩ => rfl),
    shapeCast_self]

end Cert.Proof.Conv

end
-- ==== Proof.Arrays.lean ====
/-
  The arrays the convolution kernel leaves, over the extended reals: the outputs of the first four scenes are the convolution
  at every position, the other scenes keep what the aliased array held, and the eight by 128 maxima are bounded exactly by what
  bounds the magnitudes of those outputs.
-/
module

public import proofs.«01_k».proof.Proof.Block
public import proofs.«01_k».proof.Proof.Chunk

@[expose] public section

set_option maxRecDepth 16384

noncomputable section

namespace Cert.Proof.Conv

open Cert.KernelIdeal Cert.KernelIdeal.Gen Cert.KernelIdeal.Value Idealize.ShloMosaic Idealize.ShloMosaic.TcCoe
  Idealize.ShloMosaic.ValueIdx
open Idealize.ShloMosaic.Pipeline (Dat)
open scoped BigOperators

variable (m : (ℓ : Loc nD τ sig) → Buf (Elt Ideal) ℓ) (c : Dev nD)

/-! ### The arguments -/

abbrev argG : S4x26x24x40960.Idx → BitVec 32 := m ((c : Thread nD τ).loc main_arg1)
abbrev argX : S16x96x40960.Idx → EReal := m ((c : Thread nD τ).loc main_arg2)
abbrev argW : S27x160x96.Idx → EReal := m ((c : Thread nD τ).loc main_arg3)
abbrev argS : S27x160x1.Idx → EReal := m ((c : Thread nD τ).loc main_arg4)
abbrev argA : S1.Idx → EReal := m ((c : Thread nD τ).loc main_arg0)
abbrev argB : S160x1.Idx → EReal := m ((c : Thread nD τ).loc main_arg5)
abbrev argY : S16x160x40960.Idx → EReal := m ((c : Thread nD τ).loc main_arg6)

/-- One value of the convolution of the arguments. -/
def value (i : Fin 4) (o : Fin 160) (v : Fin 40960) : EReal :=
  conv (argG m c) (argX m c) (argW m c) (argS m c) (argA m c (ix1 0)) (argB m c) i o v

/-! ### Where a grid point's blocks are -/

theorem lt_N (t : Fin cfg0.N) : t.val < 160 := t.isLt

theorem index_1 : ∀ t : Fin cfg0.N, win0_1.index t 0 = t.val / 40 ∧ win0_1.index t 1 = 0 ∧ win0_1.index t 2 = 0 ∧ win0_1.index t 3 = t.val % 40 :=
  (by decide +kernel : ∀ t : Fin grid0.N, win0_1.index t 0 = t.val / 40 ∧ win0_1.index t 1 = 0 ∧ win0_1.index t 2 = 0 ∧ win0_1.index t 3 = t.val % 40)
theorem index_2 : ∀ t : Fin cfg0.N, win0_2.index t 0 = t.val / 40 ∧ win0_2.index t 1 = 0 ∧ win0_2.index t 2 = t.val % 40 :=
  (by decide +kernel : ∀ t : Fin grid0.N, win0_2.index t 0 = t.val / 40 ∧ win0_2.index t 1 = 0 ∧ win0_2.index t 2 = t.val % 40)
theorem index_6 : ∀ t : Fin cfg0.N, win0_6.index t 0 = t.val / 40 ∧ win0_6.index t 1 = 0 ∧ win0_6.index t 2 = t.val % 40 :=
  (by decide +kernel : ∀ t : Fin grid0.N, win0_6.index t 0 = t.val / 40 ∧ win0_6.index t 1 = 0 ∧ win0_6.index t 2 = t.val % 40)
theorem index_0 : ∀ t : Fin cfg0.N, win0_0.index t 0 = 0 :=
  (by decide +kernel : ∀ t : Fin grid0.N, win0_0.index t 0 = 0)
theorem index_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index_4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_7 : ∀ t : Fin cfg0.N, win0_7.index t 0 = 0 ∧ win0_7.index t 1 = 0 :=
  (by decide +kernel : ∀ t : Fin grid0.N, win0_7.index t 0 = 0 ∧ win0_7.index t 1 = 0)

/-- The scene of a point. -/
def scene (t : Fin cfg0.N) : Fin 4 := ⟨t.val / 40, by have := lt_N t; omega⟩
/-- A column of a point's block, in the array. -/
def column (t : Fin cfg0.N) (p : Fin 1024) : Fin 40960 := ⟨1024 * (t.val % 40) + p.val, by omega⟩

theorem blk_1 (t : Fin cfg0.N) (k : Fin 26) (r : Fin 24) (p : Fin 1024) :
    (iblk m c 1 t : S1x26x24x1024.Idx → BitVec 32) (ix4 0 k r p) = argG m c (ix4 (scene t) k r (column t p)) := by
  obtain ⟨h0, h1, h2, h3⟩ := index_1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 40; rw [h0]; omega
  | ⟨1, _⟩ => show win0_1.index t 1 * 26 + 1 * k.val = k.val; rw [h1]; omega
  | ⟨2, _⟩ => show win0_1.index t 2 * 24 + 1 * r.val = r.val; rw [h2]; omega
  | ⟨3, _⟩ => show win0_1.index t 3 * 1024 + 1 * p.val = 1024 * (t.val % 40) + p.val; rw [h3]; omega

theorem blk_2 (t : Fin cfg0.N) (r : Fin 96) (p : Fin 1024) :
    (iblk m c 2 t : S1x96x1024.Idx → EReal) (ix3 0 r p)
      = argX m c (ix3 ⟨(scene t).val, by have := (scene t).isLt; omega⟩ r (column t p)) := by
  obtain ⟨h0, h1, h2⟩ := index_2 t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = t.val / 40; rw [h0]; omega
  | ⟨1, _⟩ => show win0_2.index t 1 * 96 + 1 * r.val = r.val; rw [h1]; omega
  | ⟨2, _⟩ => show win0_2.index t 2 * 1024 + 1 * p.val = 1024 * (t.val % 40) + p.val; rw [h2]; omega

theorem blk_0 (t : Fin cfg0.N) (j : S1.Idx) : (iblk m c 0 t : S1.Idx → EReal) j = argA m c (ix1 0) := by
  have h0 := index_0 t
  unfold iblk
  rw [View.read_apply]
  show V m c main_arg0 _ = m (c.tc.loc main_arg0) _
  rw [V_main_arg0]
  congr 1
  funext a
  apply Fin.ext
  match a with
  | ⟨0, _⟩ => have := (j 0).isLt; have hj : (j 0).val < 1 := this; show win0_0.index t 0 * 1 + 1 * (j 0).val = 0; rw [h0]; omega

theorem blk_3 (t : Fin cfg0.N) (k : Fin 27) (o : Fin 160) (r : Fin 96) :
    (iblk m c 3 t : S27x160x96.Idx → EReal) (ix3 k o r) = argW m c (ix3 k o r) := by
  obtain ⟨h0, h1, h2⟩ := index_3 t
  unfold iblk
  rw [View.read_apply]
  show V m c main_arg3 _ = m (c.tc.loc main_arg3) _
  rw [V_main_arg3]
  congr 1
  funext a
  apply Fin.ext
  match a with
  | ⟨0, _⟩ => show win0_3.index t 0 * 27 + 1 * k.val = k.val; rw [h0]; omega
  | ⟨1, _⟩ => show win0_3.index t 1 * 160 + 1 * o.val = o.val; rw [h1]; omega
  | ⟨2, _⟩ => show win0_3.index t 2 * 96 + 1 * r.val = r.val; rw [h2]; omega

theorem blk_4 (t : Fin cfg0.N) (k : Fin 27) (o : Fin 160) :
    (iblk m c 4 t : S27x160x1.Idx → EReal) (ix3 k o 0) = argS m c (ix3 k o 0) := by
  obtain ⟨h0, h1, h2⟩ := index_4 t
  unfold iblk
  rw [View.read_apply]
  show V m c main_arg4 _ = m (c.tc.loc main_arg4) _
  rw [V_main_arg4]
  congr 1
  funext a
  apply Fin.ext
  match a with
  | ⟨0, _⟩ => show win0_4.index t 0 * 27 + 1 * k.val = k.val; rw [h0]; omega
  | ⟨1, _⟩ => show win0_4.index t 1 * 160 + 1 * o.val = o.val; rw [h1]; omega
  | ⟨2, _⟩ => show win0_4.index t 2 * 1 + 1 * 0 = 0; rw [h2]

theorem blk_5 (t : Fin cfg0.N) (o : Fin 160) :
    (iblk m c 5 t : S160x1.Idx → EReal) (ix2 o 0) = argB m c (ix2 o 0) := by
  obtain ⟨h0, h1⟩ := index_5 t
  unfold iblk
  rw [View.read_apply]
  show V m c main_arg5 _ = m (c.tc.loc main_arg5) _
  rw [V_main_arg5]
  congr 1
  funext a
  apply Fin.ext
  match a with
  | ⟨0, _⟩ => show win0_5.index t 0 * 160 + 1 * o.val = o.val; rw [h0]; omega
  | ⟨1, _⟩ => show win0_5.index t 1 * 1 + 1 * 0 = 0; rw [h1]

/-! ### What the body reads at a point -/

abbrev readG (t : Fin cfg0.N) : Fin 26 → Fin 4 → Vec Ideal S1x1x24x256 .i32 :=
  fun k n => View.ld (iblk m c 1 t : Vec Ideal S1x26x24x1024 .i32) (rectG k n)
abbrev readX (t : Fin cfg0.N) : Fin 4 → Vec Ideal S1x96x256 .fp8e4m3 :=
  fun n => View.ld (iblk m c 2 t : Vec Ideal S1x96x1024 .fp8e4m3) (rectX n)
abbrev readW (t : Fin cfg0.N) : Fin 27 → Vec Ideal S1x160x96 .fp8e4m3 :=
  fun k => View.ld (iblk m c 3 t : Vec Ideal S27x160x96 .fp8e4m3) (rectW k)
abbrev readA (t : Fin cfg0.N) : Elt Ideal .f32 := (iblk m c 0 t : Vec Ideal S1 .f32) (Shape.Idx.first (s := S1) (by decide))

theorem readG_apply (t : Fin cfg0.N) (k : Fin 26) (n : Fin 4) (r : Fin 24) (p : Fin 256) :
    readG m c t k n (ix4 0 0 r p) = argG m c (ix4 (scene t) k r (column t ⟨256 * n.val + p.val, by omega⟩)) := by
  rw [← blk_1]
  show (iblk m c 1 t : S1x26x24x1024.Idx → BitVec 32) _ = _
  congr 1
  funext a
  apply Fin.ext
  match a with
  | ⟨0, _⟩ => rfl
  | ⟨1, _⟩ => show k.val + 1 * 0 = k.val; omega
  | ⟨2, _⟩ => show 0 + 1 * r.val = r.val; omega
  | ⟨3, _⟩ => show 256 * n.val + 1 * p.val = 256 * n.val + p.val; omega

theorem readX_apply (t : Fin cfg0.N) (n : Fin 4) (r : Fin 96) (p : Fin 256) :
    (readX m c t n (ix3 0 r p) : EReal)
      = argX m c (ix3 ⟨(scene t).val, by have := (scene t).isLt; omega⟩ r (column t ⟨256 * n.val + p.val, by omega⟩)) := by
  rw [← blk_2]
  show (iblk m c 2 t : S1x96x1024.Idx → EReal) _ = _
  congr 1
  funext a
  apply Fin.ext
  match a with
  | ⟨0, _⟩ => rfl
  | ⟨1, _⟩ => show 0 + 1 * r.val = r.val; omega
  | ⟨2, _⟩ => show 256 * n.val + 1 * p.val = 256 * n.val + p.val; omega

theorem readW_apply (t : Fin cfg0.N) (k : Fin 27) (o : Fin 160) (r : Fin 96) :
    (readW m c t k (ix3 0 o r) : EReal) = argW m c (ix3 k o r) := by
  rw [← blk_3 m c t]
  show (iblk m c 3 t : S27x160x96.Idx → EReal) _ = _
  congr 1
  funext a
  apply Fin.ext
  match a with
  | ⟨0, _⟩ => show k.val + 1 * 0 = k.val; omega
  | ⟨1, _⟩ => show 0 + 1 * o.val = o.val; omega
  | ⟨2, _⟩ => show 0 + 1 * r.val = r.val; omega

theorem readS_apply (t : Fin cfg0.N) (k : Fin 27) (o : Fin 160) (p : Fin 128) :
    (scaleRow (View.ld (iblk m c 4 t : Vec Ideal S27x160x1 .f32) (rectS1 k)) (ix3 0 o p) : EReal) = argS m c (ix3 k o 0) := by
  rw [scaleRow_apply, ← blk_4 m c t]
  show (iblk m c 4 t : S27x160x1.Idx → EReal) _ = _
  congr 1
  funext a
  apply Fin.ext
  match a with
  | ⟨0, _⟩ => show k.val + 1 * 0 = k.val; omega
  | ⟨1, _⟩ => show 0 + 1 * o.val = o.val; omega
  | ⟨2, _⟩ => rfl

/-- The right operand a point multiplies by at offset `k` is the input at the point's scene and columns. -/
theorem operandAt_eq (t : Fin cfg0.N) (k : Fin 27) (n : Fin 4) (r : Fin 96) (p : Fin 256) :
    operandAt (readG m c t) (readX m c t) k n r p
      = input (argG m c) (argX m c) (scene t) k r (column t ⟨256 * n.val + p.val, by omega⟩) := by
  unfold operandAt input
  simp only [readG_apply, readX_apply]

variable {sr : Fin 27 → Vec Ideal S1x160x128 .f32} {br : Vec Ideal S160x128 .f32}

/-- A chunk of a point is the convolution at the point's scene and columns, whenever the scales and the bias it reads are the
    arguments' repeated. -/
theorem chunkAt_eq (t : Fin cfg0.N) (hs : ∀ k o p, (sr k (ix3 0 o p) : EReal) = argS m c (ix3 k o 0))
    (hb : ∀ o p, (br (ix2 o p) : EReal) = argB m c (ix2 o 0)) (q : Fin 8) (o : Fin 160) (p : Fin 128) :
    chunkAt (readG m c t) (readX m c t) (readW m c t) sr (readA m c t) br q o p
      = value m c (scene t) o (column t ⟨128 * q.val + p.val, by omega⟩) := by
  have e : (⟨256 * (q.val / 2) + (128 * (q.val % 2) + p.val), by omega⟩ : Fin 1024) = ⟨128 * q.val + p.val, by omega⟩ :=
    Fin.ext (by show 256 * (q.val / 2) + (128 * (q.val % 2) + p.val) = 128 * q.val + p.val; omega)
  unfold chunkAt value conv
  simp only [operandAt_eq, readW_apply, hs, hb, e]
  rw [show readA m c t = argA m c (ix1 0) from blk_0 m c t _]

/-- So the block a point stores is the convolution at its scene and columns, … -/
theorem block_eq (t : Fin cfg0.N) (hs : ∀ k o p, (sr k (ix3 0 o p) : EReal) = argS m c (ix3 k o 0))
    (hb : ∀ o p, (br (ix2 o p) : EReal) = argB m c (ix2 o 0)) (j : S1x160x1024.Idx) :
    (View.canon (chunksTo (readG m c t) (readX m c t) (readW m c t) sr
      (readA m c t) br 8 le_rfl) j : EReal)
      = value m c (scene t) (j 1) (column t (j 2)) := by
  rw [canon_chunks]
  refine (chunkAt_eq m c t hs hb _ _ _).trans ?_
  congr 2
  apply Fin.ext
  show 128 * ((j 2).val / 128) + (j 2).val % 128 = (j 2).val
  omega

/-- … and the maximum it takes is bounded by what bounds those magnitudes. -/
theorem peak_le (t : Fin cfg0.N) (hs : ∀ k o p, (sr k (ix3 0 o p) : EReal) = argS m c (ix3 k o 0))
    (hb : ∀ o p, (br (ix2 o p) : EReal) = argB m c (ix2 o 0)) (r : Fin 8) (l : Fin 128) (z : EReal) :
    (peakTo (readG m c t) (readX m c t) (readW m c t) sr
      (readA m c t) br 8 le_rfl (ix2 r l) : EReal) ≤ z ↔
      0 ≤ z ∧ ∀ (o : Fin 160) (v : Fin 40960), o.val % 8 = r.val → v.val % 128 = l.val → v.val / 1024 = t.val % 40 →
        mag (value m c (scene t) o v) ≤ z := by
  rw [peakTo_le]
  refine and_congr_right fun _ => ⟨fun h o v ho hv hb' => ?_, fun h o u ho _ => ?_⟩
  · have := h o ⟨v.val % 1024 / 128, by omega⟩ ho (by show v.val % 1024 / 128 < 8; omega)
    rw [chunkAt_eq m c t hs hb] at this
    have e : column t ⟨128 * (v.val % 1024 / 128) + l.val, by omega⟩ = v := Fin.ext (by
      show 1024 * (t.val % 40) + (128 * (v.val % 1024 / 128) + l.val) = v.val; omega)
    rwa [e] at this
  · rw [chunkAt_eq m c t hs hb]
    exact h o _ ho (by show (1024 * (t.val % 40) + (128 * u.val + l.val)) % 128 = l.val; omega)
      (by show (1024 * (t.val % 40) + (128 * u.val + l.val)) / 1024 = t.val % 40; omega)

/-! ### What the points leave -/

/-- After every point the scratch arrays hold the scales and the bias repeated. -/
theorem scratch (n : ℕ) : ∀ (hn : n < cfg0.N),
    (∀ k o p, (View.ld (outsAt0 m c n hn).2.2.1 (rectS k) (ix3 0 o p) : EReal) = argS m c (ix3 k o 0))
    ∧ ∀ o p, ((outsAt0 m c n hn).2.2.2 (ix2 o p) : EReal) = argB m c (ix2 o 0) := by
  induction n with
  | zero =>
    intro hn
    have h := outsAt0_A m c ⟨0, hn⟩ (Nat.zero_mod _)
    dsimp only at h
    rw [h]
    refine ⟨fun k o p => ?_, fun o p => ?_⟩
    · dsimp only
      rw [soutA_scales]
      exact readS_apply m c _ k o p
    · dsimp only
      rw [soutA_bias, biasCols_apply]
      exact blk_5 m c _ o
  | succ n ih =>
    intro hn
    have hN : cfg0.N = 160 := N_0
    have h := outsAt0_B m c ⟨n + 1, hn⟩ (by show ¬ (n + 1) % 160 = 0; omega)
    dsimp only at h
    rw [h]
    exact ih (by omega)

/-- What a point leaves in its output block is the convolution at its scene and columns. -/
theorem left_y (n : ℕ) (hn : n < cfg0.N) (j : S1x160x1024.Idx) :
    ((outsAt0 m c n hn).1 j : EReal) = value m c (scene ⟨n, hn⟩) (j 1) (column ⟨n, hn⟩ (j 2)) := by
  have hN : cfg0.N = 160 := N_0
  by_cases h0 : n % 160 = 0
  · have h := outsAt0_A m c ⟨n, hn⟩ h0
    dsimp only at h
    rw [h]
    dsimp only
    rw [outA_y]
    exact block_eq m c ⟨n, hn⟩ (readS_apply m c _) (fun o p => (biasCols_apply _ o p).trans (blk_5 m c _ o)) j
  · have h := outsAt0_B m c ⟨n, hn⟩ h0
    dsimp only at h
    rw [h]
    dsimp only
    rw [outB_y]
    have hs := scratch m c (n - 1) (by omega)
    exact block_eq m c ⟨n, hn⟩ hs.1 hs.2 j

/-- What bounds the running maximum after point `n`: zero and the magnitudes of the outputs of the points so far. -/
theorem left_top (r : Fin 8) (l : Fin 128) (z : EReal) (n : ℕ) : ∀ (hn : n < cfg0.N),
    ((outsAt0 m c n hn).2.1 (ix2 r l) : EReal) ≤ z ↔
      0 ≤ z ∧ ∀ (i : Fin 4) (o : Fin 160) (v : Fin 40960), o.val % 8 = r.val → v.val % 128 = l.val →
        40 * i.val + v.val / 1024 ≤ n → mag (value m c i o v) ≤ z := by
  have hN : cfg0.N = 160 := N_0
  induction n with
  | zero =>
    intro hn
    have h := outsAt0_A m c ⟨0, hn⟩ (Nat.zero_mod _)
    dsimp only at h
    rw [h]
    dsimp only
    rw [outA_top, maximumf_apply, max_le_iff]
    refine (and_congr_right fun _ => peak_le m c ⟨0, hn⟩ (readS_apply m c _)
      (fun o p => (biasCols_apply _ o p).trans (blk_5 m c _ o)) r l z).trans ?_
    have hz : (zeroTop (F := Ideal) (ix2 r l) : EReal) = 0 := by
      show Ideal.ofBits .f32 0x00000000#32 = 0
      simp [Ideal.ofBits, Ideal.ieee]
    rw [hz]
    constructor
    · rintro ⟨h0, _, h1⟩
      refine ⟨h0, fun i o v ho hv hle => ?_⟩
      have : scene ⟨0, hn⟩ = i := Fin.ext (by show 0 / 40 = i.val; omega)
      rw [← this]
      exact h1 o v ho hv (by show v.val / 1024 = 0 % 40; omega)
    · rintro ⟨h0, h1⟩
      exact ⟨h0, h0, fun o v ho hv hb => h1 _ o v ho hv (by
        have hb' : v.val / 1024 = 0 % 40 := hb
        show 40 * (0 / 40) + v.val / 1024 ≤ 0; omega)⟩
  | succ n ih =>
    intro hn
    have h := outsAt0_B m c ⟨n + 1, hn⟩ (by show ¬ (n + 1) % 160 = 0; omega)
    dsimp only at h
    rw [h]
    dsimp only
    have hs := scratch m c (n + 1 - 1) (by omega)
    rw [outB_top, maximumf_apply, max_le_iff]
    refine (and_congr (ih (by omega)) (peak_le m c ⟨n + 1, hn⟩ hs.1 hs.2 r l z)).trans ?_
    constructor
    · rintro ⟨⟨h0, h1⟩, _, h2⟩
      refine ⟨h0, fun i o v ho hv hle => ?_⟩
      by_cases hlt : 40 * i.val + v.val / 1024 ≤ n
      · exact h1 i o v ho hv hlt
      · have : scene ⟨n + 1, hn⟩ = i := Fin.ext (by show (n + 1) / 40 = i.val; omega)
        rw [← this]
        exact h2 o v ho hv (by show v.val / 1024 = (n + 1) % 40; omega)
    · rintro ⟨h0, h1⟩
      exact ⟨⟨h0, fun i o v ho hv hle => h1 i o v ho hv (by omega)⟩, h0, fun o v ho hv hb => h1 _ o v ho hv (by
        have hb' : v.val / 1024 = (n + 1) % 40 := hb
        show 40 * ((n + 1) / 40) + v.val / 1024 ≤ n + 1; omega)⟩

/-! ### The arrays -/

theorem mem_blk6 (t : Fin cfg0.N) (j : S16x160x40960.Idx) : j ∈ ((cfg0.win 6).blk t).view.set ↔
    (j 0).val = t.val / 40 ∧ (j 2).val / 1024 = t.val % 40 := by
  obtain ⟨h0, h1, h2⟩ := index_6 t
  show j ∈ ((View.whole main_v0_0).slice (win0_6.rect t)).set ↔ _
  rw [View.set_slice_whole, Rect.mem_set_unit]
  constructor
  · intro h
    have a0 : win0_6.index t 0 * 1 ≤ (j 0).val ∧ (j 0).val < win0_6.index t 0 * 1 + 1 := h 0
    have a2 : win0_6.index t 2 * 1024 ≤ (j 2).val ∧ (j 2).val < win0_6.index t 2 * 1024 + 1024 := h 2
    rw [h0] at a0
    rw [h2] at a2
    omega
  · rintro ⟨e0, e2⟩ a
    match a with
    | ⟨0, _⟩ =>
      show win0_6.index t 0 * 1 ≤ (j 0).val ∧ (j 0).val < win0_6.index t 0 * 1 + 1
      rw [h0]; omega
    | ⟨1, _⟩ =>
      have hj1 : (j 1).val < 160 := (j 1).isLt
      show win0_6.index t 1 * 160 ≤ (j 1).val ∧ (j 1).val < win0_6.index t 1 * 160 + 160
      rw [h1]; omega
    | ⟨2, _⟩ =>
      show win0_6.index t 2 * 1024 ≤ (j 2).val ∧ (j 2).val < win0_6.index t 2 * 1024 + 1024
      rw [h2]; omega

theorem mem_blk7 (t : Fin cfg0.N) (j : S8x128.Idx) : j ∈ ((cfg0.win 7).blk t).view.set := by
  obtain ⟨h0, h1⟩ := index_7 t
  show j ∈ ((View.whole main_v0_1).slice (win0_7.rect t)).set
  rw [View.set_slice_whole, Rect.mem_set_unit]
  intro a
  match a with
  | ⟨0, _⟩ =>
    have hj : (j 0).val < 8 := (j 0).isLt
    show win0_7.index t 0 * 8 ≤ (j 0).val ∧ (j 0).val < win0_7.index t 0 * 8 + 8
    rw [h0]; omega
  | ⟨1, _⟩ =>
    have hj : (j 1).val < 128 := (j 1).isLt
    show win0_7.index t 1 * 128 ≤ (j 1).val ∧ (j 1).val < win0_7.index t 1 * 128 + 128
    rw [h1]; omega

/-- The array the outputs are written into holds the argument's copy at entry. -/
theorem entry_y : (V m c main_v0_0 : S16x160x40960.Idx → EReal) = argY m c := by
  unfold V
  simp [hostOps0, StableHlo.unary]

/-- The outputs: the convolution in the first four scenes, the array they were written into in the others. -/
def outY : S16x160x40960.Idx → EReal := fun j =>
  if h : (j 0).val < 4 then value m c ⟨(j 0).val, h⟩ (j 1) (j 2) else argY m c j

theorem arr_y : ((dats m 0 c).arrAt 6 cfg0.N : S16x160x40960.Idx → EReal) = outY m c := by
  funext j
  have hG : ∀ t, (cfg0.win 6).flush t = true → (dats m 0 c).flushed 6 t = ((cfg0.win 6).blk t).view.read (Elt Ideal) (outY m c) := by
    intro t _
    obtain ⟨h0, h1, h2⟩ := index_6 t
    rw [flushed6]
    funext (y : S1x160x1024.Idx)
    rw [View.read_apply]
    show ((outsAt0 m c t.val t.isLt).1 y : EReal) = outY m c (((cfg0.win 6).rect t).emb y)
    have e0 : (((cfg0.win 6).rect t).emb y (0 : Fin 3)).val = t.val / 40 := by
      have hy : (y 0).val < 1 := (y 0).isLt
      show win0_6.index t 0 * 1 + 1 * (y 0).val = _; rw [h0]; omega
    have e1 : (((cfg0.win 6).rect t).emb y (1 : Fin 3)).val = (y 1).val := by
      show win0_6.index t 1 * 160 + 1 * (y 1).val = _; rw [h1]; omega
    have e2 : (((cfg0.win 6).rect t).emb y (2 : Fin 3)).val = 1024 * (t.val % 40) + (y 2).val := by
      show win0_6.index t 2 * 1024 + 1 * (y 2).val = _; rw [h2]; omega
    rw [left_y]
    unfold outY
    have ht := lt_N t
    rw [dif_pos (by rw [e0]; omega)]
    congr 1
    · exact Fin.ext e0.symm
    · exact Fin.ext e1.symm
    · exact Fin.ext e2.symm
  rw [(dats m 0 c).arrAt_eq_piecewise 6 (outY m c) hG j]
  split
  · rfl
  · rename_i hno
    by_cases h4 : (j 0).val < 4
    · exfalso
      have hj2 : (j 2).val < 40960 := (j 2).isLt
      have hN : cfg0.N = 160 := N_0
      exact hno ⟨⟨40 * (j 0).val + (j 2).val / 1024, by omega⟩, flush0_6 _, (mem_blk6 _ j).2
        ⟨by show (j 0).val = (40 * (j 0).val + (j 2).val / 1024) / 40; omega,
          by show (j 2).val / 1024 = (40 * (j 0).val + (j 2).val / 1024) % 40; omega⟩⟩
    · unfold outY
      rw [dif_neg h4]
      exact congrFun (entry_y m c) j

/-- The block of maxima is the whole array. -/
theorem emb7 (t : Fin cfg0.N) (y : S8x128.Idx) : ((cfg0.win 7).rect t).emb y = y := by
  obtain ⟨h0, h1⟩ := index_7 t
  funext a
  apply Fin.ext
  match a with
  | ⟨0, _⟩ => show win0_7.index t 0 * 8 + 1 * (y 0).val = (y 0).val; rw [h0]; omega
  | ⟨1, _⟩ => show win0_7.index t 1 * 128 + 1 * (y 1).val = (y 1).val; rw [h1]; omega

/-- The maxima are what the last point leaves. -/
theorem arr_top (n : ℕ) (hn : n < cfg0.N) (hlast : n = 159) :
    ((dats m 0 c).arrAt 7 cfg0.N : S8x128.Idx → EReal) = (outsAt0 m c n hn).2.1 := by
  have hG : ∀ t, (cfg0.win 7).flush t = true → (dats m 0 c).flushed 7 t
      = ((cfg0.win 7).blk t).view.read (Elt Ideal) (outsAt0 m c n hn).2.1 := by
    intro t hf
    have ht : t.val = n := by have := (flush0_7 t).1 hf; have := lt_N t; omega
    rw [flushed7]
    funext (y : S8x128.Idx)
    rw [View.read_apply]
    show ((outsAt0 m c t.val t.isLt).2.1 y : EReal) = (outsAt0 m c n hn).2.1 (((cfg0.win 7).rect t).emb y)
    rw [emb7]
    simp only [ht]
  funext j
  exact (dats m 0 c).arrAt_apply_of_mem 7 _ hG cfg0.N ⟨n, hn⟩ j hn
    ((flush0_7 _).2 (by show n % 160 = 159; omega)) (mem_blk7 _ j)

/-- What bounds an entry of the maxima. -/
theorem left_top_last (n : ℕ) (hn : n < cfg0.N) (hlast : n = 159) (r : Fin 8) (l : Fin 128) (z : EReal) :
    ((outsAt0 m c n hn).2.1 (ix2 r l) : EReal) ≤ z ↔
      Bounds (argG m c) (argX m c) (argW m c) (argS m c) (argA m c (ix1 0)) (argB m c) r l z := by
  rw [left_top]
  unfold Bounds
  refine and_congr_right fun _ => ⟨fun h i o v ho hv => h i o v ho hv (by omega), fun h i o v ho hv _ => h i o v ho hv⟩

end Cert.Proof.Conv

end
-- ==== Proof.Ref.lean ====
/-
  What the reference computes, over the extended reals: its one body read at an index.
-/
module

public import proofs.«01_k».proof.Proof.Gen.ReferenceIdeal.Value
public import proofs.«01_k».proof.Proof.Codes
public import Idealize.ShloMosaic.Lib.MatmulPlain

@[expose] public section

set_option maxRecDepth 16384

noncomputable section

namespace Cert.Proof.Ref

open Cert.ReferenceIdeal Cert.ReferenceIdeal.Gen Cert.ReferenceIdeal.Value Idealize.ShloMosaic Idealize.ShloMosaic.TcCoe
  Idealize.ShloMosaic.ValueIdx Cert.Proof.Conv
open scoped BigOperators

/-! ### The body, as it runs -/

theorem inb_lo : ∀ (i : Fin 4), ∀ a, (![i.val, 0, 0, 0] : Fin 4 → ℕ) a + S1x13x24x40960.size a ≤ S4x26x24x40960.size a := by decide
theorem inb_hi : ∀ (i : Fin 4), ∀ a, (![i.val, 13, 0, 0] : Fin 4 → ℕ) a + S1x13x24x40960.size a ≤ S4x26x24x40960.size a := by decide
theorem inb_mid : ∀ (i : Fin 4), ∀ a, (![i.val, 0, 0] : Fin 3 → ℕ) a + S1x96x40960.size a ≤ S16x96x40960.size a := by decide
theorem inb_out : ∀ (i : Fin 4), ∀ a, (![i.val, 0, 0] : Fin 3 → ℕ) a + S1x160x40960.size a ≤ S16x160x40960.size a := by decide

/-- The parts of the arrays one scene reads and writes: the offsets below the centre, those above, its own codes, its outputs. -/
abbrev rectLo (i : Fin 4) : Rect S4x26x24x40960 := Rect.unit ![i.val, 0, 0, 0] S1x13x24x40960.size (inb_lo i)
abbrev rectHi (i : Fin 4) : Rect S4x26x24x40960 := Rect.unit ![i.val, 13, 0, 0] S1x13x24x40960.size (inb_hi i)
abbrev rectMid (i : Fin 4) : Rect S16x96x40960 := Rect.unit ![i.val, 0, 0] S1x96x40960.size (inb_mid i)
abbrev rectOut (i : Fin 4) : Rect S16x160x40960 := Rect.unit ![i.val, 0, 0] S1x160x40960.size (inb_out i)
abbrev rectRest : Rect S16x160x40960 := Rect.unit ![4, 0, 0] S12x160x40960.size inb_S16x160x40960_S12x160x40960_4_0_0
abbrev rectW : Rect S27x160x96 := Rect.unit ![0, 0, 0] S27x160x96.size inb_S27x160x96_S27x160x96_0_0_0
abbrev rectS : Rect S27x160x1 := Rect.unit ![0, 0, 0] S27x160x1.size inb_S27x160x1_S27x160x1_0_0_0
abbrev rectB : Rect S160x1 := Rect.unit ![0, 0] S160x1.size inb_S160x1_S160x1_0_0
abbrev rectTop : Rect S8x128 := Rect.unit ![0, 0] S8x128.size inb_S8x128_S8x128_0_0

section Body

variable {F : FTy → Type} [FloatOps F]

/-- The running maximum `p` taken over the magnitudes of one scene's outputs. -/
def peakStep (p : FVec F S8x128 .f32) (out : FVec F S160x40960 .f32) : FVec F S8x128 .f32 :=
  maximumf p (multiReduction .maximumf [0, 2] S8x128 (shapeCast S20x8x320x128 (absf out) shapeCasts_S160x40960_S20x8x320x128)
    0xFF800000#32 reduces_S20x8x320x128_S8x128 (.inl rfl) rfl)

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec F S1 .f32) (x1 : Vec F S4x26x24x40960 .i32) (x2 : Vec F S16x96x40960 .fp8e4m3) (x3 : Vec F S27x160x96 .fp8e4m3) (x4 : Vec F S27x160x1 .f32) (x5 : Vec F S160x1 .f32) (x6 : Vec F S16x160x40960 .f32)

/-- One scene's outputs, over what the body loads. -/
def loaded (i : Fin 4) : FVec F S160x40960 .f32 :=
  k0_pay1 (arg1.view.readAt (Elt F) (rectLo i).toLoadRect (harg1.unread x1)) (arg2.view.readAt (Elt F) (rectMid i).toLoadRect (harg2.unread x2))
    (arg1.view.readAt (Elt F) (rectHi i).toLoadRect (harg1.unread x1)) (arg3.view.readAt (Elt F) rectW.toLoadRect (harg3.unread x3))
    (arg4.view.readAt (Elt F) rectS.toLoadRect (harg4.unread x4))
    (arg0.view.readAt (Elt F) (Rect.unit (s := S1) ![0] S1.size inb_S1_S1_0).toLoadRect (harg0.unread x0) (Shape.Idx.first (s := S1) (by decide)))
    (arg5.view.readAt (Elt F) rectB.toLoadRect (harg5.unread x5))

/-- One scene's outputs, over the arrays. -/
def out (i : Fin 4) : FVec F S160x40960 .f32 :=
  k0_pay1 (View.ld x1 (rectLo i)) (View.ld x2 (rectMid i)) (View.ld x1 (rectHi i)) x3 x4 (x0 (Shape.Idx.first (s := S1) (by decide))) x5

theorem loaded_eq (i : Fin 4) :
    loaded arg0 harg0 arg1 harg1 arg2 harg2 arg3 harg3 arg4 harg4 arg5 harg5 x0 x1 x2 x3 x4 x5 i = out x0 x1 x2 x3 x4 x5 i := by
  unfold loaded out
  simp only [View.readAt_eq_ld, harg0.read_unread, harg1.read_unread, harg2.read_unread, harg3.read_unread, harg4.read_unread,
    harg5.read_unread]
  rw [View.ld_unit_zero (by funext a; fin_cases a <;> rfl), View.ld_unit_zero (by funext a; fin_cases a <;> rfl),
    View.ld_unit_zero (by funext a; fin_cases a <;> rfl), View.ld_unit_zero (by funext a; fin_cases a <;> rfl)]

theorem run_y :
    (kernelRun0_A c arg0 harg0 arg1 harg1 arg2 harg2 arg3 harg3 arg4 harg4 arg5 harg5 arg6 harg6 arg7 harg7 arg8 harg8 x0 x1 x2 x3 x4 x5 x6).1
      = [⟨rectRest, arg6.view.readAt (Elt F) rectRest.toLoadRect (harg6.unread x6)⟩,
        ⟨rectOut 3, shapeCast S1x160x40960 (loaded arg0 harg0 arg1 harg1 arg2 harg2 arg3 harg3 arg4 harg4 arg5 harg5 x0 x1 x2 x3 x4 x5 3) shapeCasts_S160x40960_S1x160x40960⟩,
        ⟨rectOut 2, shapeCast S1x160x40960 (loaded arg0 harg0 arg1 harg1 arg2 harg2 arg3 harg3 arg4 harg4 arg5 harg5 x0 x1 x2 x3 x4 x5 2) shapeCasts_S160x40960_S1x160x40960⟩,
        ⟨rectOut 1, shapeCast S1x160x40960 (loaded arg0 harg0 arg1 harg1 arg2 harg2 arg3 harg3 arg4 harg4 arg5 harg5 x0 x1 x2 x3 x4 x5 1) shapeCasts_S160x40960_S1x160x40960⟩,
        ⟨rectOut 0, shapeCast S1x160x40960 (loaded arg0 harg0 arg1 harg1 arg2 harg2 arg3 harg3 arg4 harg4 arg5 harg5 x0 x1 x2 x3 x4 x5 0) shapeCasts_S160x40960_S1x160x40960⟩] := rfl

theorem run_top :
    (kernelRun0_A c arg0 harg0 arg1 harg1 arg2 harg2 arg3 harg3 arg4 harg4 arg5 harg5 arg6 harg6 arg7 harg7 arg8 harg8 x0 x1 x2 x3 x4 x5 x6).2.1
      = [⟨rectTop, peakStep (peakStep (peakStep (peakStep (broadcast S8x128 (Scalar.ofBits .f32 0x00000000#32))
          (loaded arg0 harg0 arg1 harg1 arg2 harg2 arg3 harg3 arg4 harg4 arg5 harg5 x0 x1 x2 x3 x4 x5 0))
          (loaded arg0 harg0 arg1 harg1 arg2 harg2 arg3 harg3 arg4 harg4 arg5 harg5 x0 x1 x2 x3 x4 x5 1))
          (loaded arg0 harg0 arg1 harg1 arg2 harg2 arg3 harg3 arg4 harg4 arg5 harg5 x0 x1 x2 x3 x4 x5 2))
          (loaded arg0 harg0 arg1 harg1 arg2 harg2 arg3 harg3 arg4 harg4 arg5 harg5 x0 x1 x2 x3 x4 x5 3)⟩] := rfl

end Body

/-! ### The outputs of a scene, at an index -/

section Scene

variable (x0 : Vec Ideal S1 .f32) (x1 : Vec Ideal S4x26x24x40960 .i32) (x2 : Vec Ideal S16x96x40960 .fp8e4m3)
  (x3 : Vec Ideal S27x160x96 .fp8e4m3) (x4 : Vec Ideal S27x160x1 .f32) (x5 : Vec Ideal S160x1 .f32)

/-- Thirteen planes of packed codes, unpacked, at an index. -/
theorem planes_apply (v : Vec Ideal S1x13x24x40960 .i32) (k : Fin 13) (c : Fin 96) (p : Fin 40960) :
    (bitcastToFloat (F := Ideal) .fp8e4m3 (bitcast S13x96x40960 8 (shapeCast S13x24x40960 v shapeCasts_S1x13x24x40960_S13x24x40960)
      bitcasts_S13x24x40960_w32_S13x96x40960_w8) (ix3 k c p) : EReal)
      = codeOf (byte (v (ix4 0 k ⟨c.val / 4, by omega⟩ p)) (c.val % 4)) := by
  have e := bitcast_stack (l := 13) (n := 24) (m := 40960) (shapeCast S13x24x40960 v shapeCasts_S1x13x24x40960_S13x24x40960)
    bitcasts_S13x24x40960_w32_S13x96x40960_w8 k c p
  refine (congrArg (Ideal.ofBits .fp8e4m3) e).trans ?_
  rw [cast4_3]
  rfl

/-- The twenty-seven planes of inputs, joined, at an index. -/
theorem joined_apply (lo hi : FVec Ideal S13x96x40960 .fp8e4m3) (mid : FVec Ideal S1x96x40960 .fp8e4m3)
    (k : Fin 27) (c : Fin 96) (p : Fin 40960) :
    (concatenate S27x96x40960 0 [⟨S13x96x40960, lo⟩, ⟨S1x96x40960, mid⟩, ⟨S13x96x40960, hi⟩]
      concatenates_S13x96x40960_S1x96x40960_S13x96x40960_S27x96x40960_d0 (ix3 k c p) : EReal)
      = if h : k.val < 13 then lo (ix3 ⟨k.val, h⟩ c p) else if k.val = 13 then mid (ix3 0 c p)
        else hi (ix3 ⟨k.val - 14, by omega⟩ c p) := by
  by_cases h : k.val < 13
  · rw [dif_pos h]
    exact concatenate_apply_piece 0 _ _ (ix3 k c p) 0 (by simp) S13x96x40960 lo rfl rfl 0 rfl (ix3 ⟨k.val, h⟩ c p)
      (fun b hb => by
        match b with
        | ⟨0, _⟩ => exact absurd rfl hb
        | ⟨1, _⟩ => rfl
        | ⟨2, _⟩ => rfl) (Nat.zero_add _)
  · rw [dif_neg h]
    by_cases h' : k.val = 13
    · rw [if_pos h']
      exact concatenate_apply_piece 0 _ _ (ix3 k c p) 1 (by simp) S1x96x40960 mid rfl rfl 13 rfl (ix3 0 c p)
        (fun b hb => by
          match b with
          | ⟨0, _⟩ => exact absurd rfl hb
          | ⟨1, _⟩ => rfl
          | ⟨2, _⟩ => rfl) h'.symm
    · rw [if_neg h']
      exact concatenate_apply_piece 0 _ _ (ix3 k c p) 2 (by simp) S13x96x40960 hi rfl rfl 14 rfl (ix3 ⟨k.val - 14, by omega⟩ c p)
        (fun b hb => by
          match b with
          | ⟨0, _⟩ => exact absurd rfl hb
          | ⟨1, _⟩ => rfl
          | ⟨2, _⟩ => rfl) (by show 14 + (k.val - 14) = k.val; omega)

/-- The product of one plane by its weights, at an index. -/
theorem dot_apply (w : FVec Ideal S27x160x96 .fp8e4m3) (x : FVec Ideal S27x96x40960 .fp8e4m3) (k : Fin 27) (o : Fin 160) (p : Fin 40960) :
    (matmul dot_S27x160x96_S27x96x40960_S27x160x40960_2_1_1_2_0_0 none w x (constant (F := Ideal) S27x160x40960 .f32 0x00000000#32)
      (ix3 k o p) : EReal) = ∑ c : Fin 96, (w (ix3 k o c) : EReal) * x (ix3 k c p) := by
  let D := dot_S27x160x96_S27x96x40960_S27x160x40960_2_1_1_2_0_0
  have hr : D.contr.rank = 1 := rfl
  have hs : D.contr.size ⟨0, by rw [hr]; omega⟩ = 96 := rfl
  refine (Ideal.matmul_apply D none w x (constant (F := Ideal) S27x160x40960 .f32 0x00000000#32) (ix3 k o p)).trans ?_
  have hz : (constant (F := Ideal) S27x160x40960 .f32 0x00000000#32 (ix3 k o p) : EReal) = 0 := by
    simp [constant_apply, Ideal.ofBits, Ideal.ieee]
  rw [hz, zero_add, ← Equiv.sum_comp (contrEquiv1 D 96 hr hs).symm]
  refine Finset.sum_congr rfl fun c _ => ?_
  have hk := contrEquiv1_symm_val D 96 hr hs c
  have el : D.lhsIdx (ix3 k o p) ((contrEquiv1 D 96 hr hs).symm c) = ix3 k o c := by
    funext a; apply Fin.ext
    match a with
    | ⟨0, _⟩ => rfl
    | ⟨1, _⟩ => rfl
    | ⟨2, _⟩ => exact hk
  have er : D.rhsIdx (ix3 k o p) ((contrEquiv1 D 96 hr hs).symm c) = ix3 k c p := by
    funext a; apply Fin.ext
    match a with
    | ⟨0, _⟩ => rfl
    | ⟨1, _⟩ => exact hk
    | ⟨2, _⟩ => rfl
  rw [el, er]

/-- The sum over the offsets, at an index. -/
theorem offsets_apply (v : FVec Ideal S27x160x40960 .f32) (o : Fin 160) (p : Fin 40960) :
    (multiReduction .add [0] S160x40960 v 0x00000000#32 reduces_S27x160x40960_S160x40960 (.inl rfl) rfl (ix2 o p) : EReal)
      = ∑ k : Fin 27, (v (ix3 k o p) : EReal) := by
  refine (Ideal.multiReduction_add_single v _ reduces_S27x160x40960_S160x40960 _ _ (ix2 o p)).trans ?_
  refine Finset.sum_congr rfl fun k _ => congrArg v ?_
  funext a; apply Fin.ext
  match a with
  | ⟨0, _⟩ => rfl
  | ⟨1, _⟩ => rfl
  | ⟨2, _⟩ => rfl

/-- One value of a scene's outputs is the convolution's. -/
theorem out_apply (i : Fin 4) (o : Fin 160) (p : Fin 40960) :
    (out x0 x1 x2 x3 x4 x5 i (ix2 o p) : EReal) = conv x1 x2 x3 x4 (x0 (ix1 0)) x5 i o p := by
  unfold out k0_pay1 conv
  dsimp only
  rw [addf_apply, mulf_apply, broadcast_apply, offsets_apply,
    broadcastTo_apply x5 broadcasts_S160x1_S160x40960 (ix2 o p) (ix2 o 0) (fun a => by
      match a with
      | ⟨0, _⟩ => rfl
      | ⟨1, _⟩ => rfl)]
  have hf : (Shape.Idx.first (s := S1) (by decide)) = ix1 0 := by
    funext a; apply Fin.ext
    match a with
    | ⟨0, _⟩ => rfl
  rw [hf]
  refine congrArg (fun z : EReal => z * (x0 (ix1 0) : EReal) + (x5 (ix2 o 0) : EReal)) (Finset.sum_congr rfl fun k _ => ?_)
  rw [mulf_apply, dot_apply,
    broadcastTo_apply x4 broadcasts_S27x160x1_S27x160x40960 (ix3 k o p) (ix3 k o 0) (fun a => by
      match a with
      | ⟨0, _⟩ => rfl
      | ⟨1, _⟩ => rfl
      | ⟨2, _⟩ => rfl)]
  refine congrArg (fun z : EReal => z * (x4 (ix3 k o 0) : EReal)) (Finset.sum_congr rfl fun c _ => ?_)
  refine congrArg (fun z : EReal => (x3 (ix3 k o c) : EReal) * z) ?_
  rw [joined_apply]
  unfold input
  by_cases h : k.val < 13
  · rw [dif_pos h, dif_pos h]
    rw [planes_apply]
    refine congrArg (fun z => codeOf (byte (x1 z) _)) ?_
    funext a; apply Fin.ext
    match a with
    | ⟨0, _⟩ => show i.val + 1 * 0 = i.val; omega
    | ⟨1, _⟩ => show 0 + 1 * k.val = k.val; omega
    | ⟨2, _⟩ => show 0 + 1 * (c.val / 4) = c.val / 4; omega
    | ⟨3, _⟩ => show 0 + 1 * p.val = p.val; omega
  · rw [dif_neg h, dif_neg h]
    by_cases h' : k.val = 13
    · rw [if_pos h', if_pos h', cast2_3, cast3_2]
      refine congrArg x2 ?_
      funext a; apply Fin.ext
      match a with
      | ⟨0, _⟩ => show i.val + 1 * 0 = i.val; omega
      | ⟨1, _⟩ => show 0 + 1 * c.val = c.val; omega
      | ⟨2, _⟩ => show 0 + 1 * p.val = p.val; omega
    · rw [if_neg h', if_neg h', planes_apply]
      refine congrArg (fun z => codeOf (byte (x1 z) _)) ?_
      funext a; apply Fin.ext
      match a with
      | ⟨0, _⟩ => show i.val + 1 * 0 = i.val; omega
      | ⟨1, _⟩ => show 13 + 1 * (k.val - 14) = k.val - 1; omega
      | ⟨2, _⟩ => show 0 + 1 * (c.val / 4) = c.val / 4; omega
      | ⟨3, _⟩ => show 0 + 1 * p.val = p.val; omega

/-- What bounds an entry of the running maximum after one more scene. -/
theorem peakStep_le (q : FVec Ideal S8x128 .f32) (v : FVec Ideal S160x40960 .f32) (r : Fin 8) (l : Fin 128) (z : EReal) :
    (peakStep q v (ix2 r l) : EReal) ≤ z ↔ (q (ix2 r l) : EReal) ≤ z ∧
      ∀ (o : Fin 160) (p : Fin 40960), o.val % 8 = r.val → p.val % 128 = l.val →
        max (v (ix2 o p) : EReal) (-(v (ix2 o p))) ≤ z := by
  unfold peakStep
  rw [maximumf_apply]
  refine max_le_iff.trans (and_congr_right fun _ => ?_)
  refine (Iff.of_eq (congrArg (fun y : EReal => y ≤ z) (multiReduction_maximumf_eq_fold (F := Ideal)
    (shapeCast S20x8x320x128 (absf v) shapeCasts_S160x40960_S20x8x320x128) 0xFF800000#32 reduces_S20x8x320x128_S8x128
    (.inl rfl) rfl (ix2 r l)))).trans ?_
  refine (Finset.fold_max_le (β := EReal) z).trans ?_
  constructor
  · rintro ⟨-, h⟩ o p ho hp
    have := h (ix4 (⟨o.val / 8, by omega⟩ : Fin 20) r (⟨p.val / 128, by omega⟩ : Fin 320) l) (by
      rw [Finset.mem_filter]
      refine ⟨Finset.mem_univ _, ?_⟩
      funext b; apply Fin.ext
      match b with
      | ⟨0, _⟩ => exact Shape.Reduces.drop_apply_val_of_eq reduces_S20x8x320x128_S8x128 (ix4 (⟨o.val / 8, by omega⟩ : Fin 20) r (⟨p.val / 128, by omega⟩ : Fin 320) l) 0 1 (by decide) (by decide)
      | ⟨1, _⟩ => exact Shape.Reduces.drop_apply_val_of_eq reduces_S20x8x320x128_S8x128 (ix4 (⟨o.val / 8, by omega⟩ : Fin 20) r (⟨p.val / 128, by omega⟩ : Fin 320) l) 1 3 (by decide) (by decide))
    rw [shapeCast_apply _ _ _ (ix2 o p) (by
      rw [Shape.rowMajor_val_two, Shape.rowMajor_val_four]
      show o.val * 40960 + p.val = ((o.val / 8 * 8 + r.val) * 320 + p.val / 128) * 128 + l.val
      omega)] at this
    exact this
  · intro h
    refine ⟨?_, fun y hy => ?_⟩
    · have : (FloatOps.ofBits (F := Ideal) .f32 0xFF800000#32 : EReal) = ⊥ := by
        show Ideal.ofBits .f32 0xFF800000#32 = ⊥
        simp [Ideal.ofBits, Ideal.ieee]
      rw [this]; exact bot_le
    · obtain ⟨a, r', b, l', rfl⟩ : ∃ (a : Fin 20) (r' : Fin 8) (b : Fin 320) (l' : Fin 128), y = ix4 a r' b l' := ⟨_, _, _, _, eq_ix4 y⟩
      have hd := (Finset.mem_filter.1 hy).2
      have h0 : r'.val = r.val := by
        rw [← Shape.Reduces.drop_apply_val_of_eq reduces_S20x8x320x128_S8x128 (ix4 a r' b l') 0 1 (by decide) (by decide), hd]
      have h1 : l'.val = l.val := by
        rw [← Shape.Reduces.drop_apply_val_of_eq reduces_S20x8x320x128_S8x128 (ix4 a r' b l') 1 3 (by decide) (by decide), hd]
      rw [shapeCast_apply _ _ _ (ix2 (⟨8 * a.val + r'.val, by omega⟩ : Fin 160) (⟨128 * b.val + l'.val, by omega⟩ : Fin 40960)) (by
        rw [Shape.rowMajor_val_two, Shape.rowMajor_val_four]
        show (8 * a.val + r'.val) * 40960 + (128 * b.val + l'.val) = ((a.val * 8 + r'.val) * 320 + b.val) * 128 + l'.val
        omega)]
      exact h _ _ (by show (8 * a.val + r'.val) % 8 = _; omega) (by show (128 * b.val + l'.val) % 128 = _; omega)

/-- The outputs: the convolution in the first four scenes, the array passed through in the others. -/
def outY (x6 : Vec Ideal S16x160x40960 .f32) : S16x160x40960.Idx → EReal := fun j =>
  if h : (j 0).val < 4 then conv x1 x2 x3 x4 (x0 (ix1 0)) x5 ⟨(j 0).val, h⟩ (j 1) (j 2) else x6 j

/-- A stored scene is the outputs there. -/
theorem piece_out (x6 : Vec Ideal S16x160x40960 .f32) (i : Fin 4) (y : S1x160x40960.Idx) :
    (shapeCast S1x160x40960 (out x0 x1 x2 x3 x4 x5 i) shapeCasts_S160x40960_S1x160x40960 y : EReal)
      = outY x0 x1 x2 x3 x4 x5 x6 ((rectOut i).emb y) := by
  obtain ⟨u, o, p, rfl⟩ : ∃ (u : Fin 1) (o : Fin 160) (p : Fin 40960), y = ix3 u o p := ⟨_, _, _, eq_ix3 y⟩
  rw [cast2_3 _ shapeCasts_S160x40960_S1x160x40960 u o p, out_apply]
  have e0 : ((rectOut i).emb (ix3 u o p) 0).val = i.val := by
    show i.val + 1 * u.val = _; omega
  have e1 : ((rectOut i).emb (ix3 u o p) 1).val = o.val := by
    show 0 + 1 * o.val = _; omega
  have e2 : ((rectOut i).emb (ix3 u o p) 2).val = p.val := by
    show 0 + 1 * p.val = _; omega
  unfold outY
  rw [dif_pos (by rw [e0]; exact i.isLt)]
  congr 1
  · exact Fin.ext e0.symm
  · exact Fin.ext e1.symm
  · exact Fin.ext e2.symm

/-- The stored rest is the outputs there. -/
theorem piece_rest (x6 : Vec Ideal S16x160x40960 .f32) (y : S12x160x40960.Idx) :
    (View.ld x6 rectRest y : EReal) = outY x0 x1 x2 x3 x4 x5 x6 (rectRest.emb y) := by
  unfold outY
  rw [dif_neg (by show ¬ (4 + 1 * (y 0).val < 4); omega)]
  rfl

/-- The stored pieces hold the outputs. -/
theorem canon_y (x6 : Vec Ideal S16x160x40960 .f32) (j : S16x160x40960.Idx) :
    (View.canon (Val := Elt Ideal) (e := .f32) [⟨rectRest, View.ld x6 rectRest⟩,
        ⟨rectOut 3, shapeCast S1x160x40960 (out x0 x1 x2 x3 x4 x5 3) shapeCasts_S160x40960_S1x160x40960⟩,
        ⟨rectOut 2, shapeCast S1x160x40960 (out x0 x1 x2 x3 x4 x5 2) shapeCasts_S160x40960_S1x160x40960⟩,
        ⟨rectOut 1, shapeCast S1x160x40960 (out x0 x1 x2 x3 x4 x5 1) shapeCasts_S160x40960_S1x160x40960⟩,
        ⟨rectOut 0, shapeCast S1x160x40960 (out x0 x1 x2 x3 x4 x5 0) shapeCasts_S160x40960_S1x160x40960⟩] j : EReal)
      = outY x0 x1 x2 x3 x4 x5 x6 j := by
  refine View.canon_apply_of_pieces (Val := Elt Ideal) (e := .f32) (outY x0 x1 x2 x3 x4 x5 x6) _ (fun P hP y => ?_) j ?_
  · simp only [List.mem_cons, List.not_mem_nil, or_false] at hP
    rcases hP with rfl | rfl | rfl | rfl | rfl
    · exact piece_rest x0 x1 x2 x3 x4 x5 x6 y
    all_goals exact piece_out x0 x1 x2 x3 x4 x5 x6 _ y
  · have hj0 : (j 0).val < 16 := (j 0).isLt
    have hj1 : (j 1).val < 160 := (j 1).isLt
    have hj2 : (j 2).val < 40960 := (j 2).isLt
    have hout : ∀ i : Fin 4, (j 0).val = i.val → j ∈ (rectOut i).set := by
      intro i hi
      rw [Rect.mem_set_unit]
      intro a
      match a with
      | ⟨0, _⟩ => show i.val ≤ (j 0).val ∧ (j 0).val < i.val + 1; omega
      | ⟨1, _⟩ => show 0 ≤ (j 1).val ∧ (j 1).val < 0 + 160; omega
      | ⟨2, _⟩ => show 0 ≤ (j 2).val ∧ (j 2).val < 0 + 40960; omega
    by_cases h4 : 4 ≤ (j 0).val
    · refine ⟨_, List.mem_cons_self, ?_⟩
      rw [Rect.mem_set_unit]
      intro a
      match a with
      | ⟨0, _⟩ => show 4 ≤ (j 0).val ∧ (j 0).val < 4 + 12; omega
      | ⟨1, _⟩ => show 0 ≤ (j 1).val ∧ (j 1).val < 0 + 160; omega
      | ⟨2, _⟩ => show 0 ≤ (j 2).val ∧ (j 2).val < 0 + 40960; omega
    · have : (j 0).val = 3 ∨ (j 0).val = 2 ∨ (j 0).val = 1 ∨ (j 0).val = 0 := by omega
      rcases this with h | h | h | h
      · exact ⟨_, .tail _ (.head _), hout 3 h⟩
      · exact ⟨_, .tail _ (.tail _ (.head _)), hout 2 h⟩
      · exact ⟨_, .tail _ (.tail _ (.tail _ (.head _))), hout 1 h⟩
      · exact ⟨_, .tail _ (.tail _ (.tail _ (.tail _ (.head _)))), hout 0 h⟩

/-- The maxima over the four scenes. -/
def top : FVec Ideal S8x128 .f32 :=
  peakStep (peakStep (peakStep (peakStep (broadcast S8x128 (Scalar.ofBits .f32 0x00000000#32)) (out x0 x1 x2 x3 x4 x5 0))
    (out x0 x1 x2 x3 x4 x5 1)) (out x0 x1 x2 x3 x4 x5 2)) (out x0 x1 x2 x3 x4 x5 3)

/-- What bounds an entry of the maxima. -/
theorem top_le (r : Fin 8) (l : Fin 128) (z : EReal) :
    (top x0 x1 x2 x3 x4 x5 (ix2 r l) : EReal) ≤ z ↔ Bounds x1 x2 x3 x4 (x0 (ix1 0)) x5 r l z := by
  unfold top Bounds
  rw [peakStep_le, peakStep_le, peakStep_le, peakStep_le, broadcast_apply]
  have hz : ((Scalar.ofBits (F := Ideal) .f32 0x00000000#32) : EReal) = 0 := by
    show Ideal.ofBits .f32 0x00000000#32 = 0
    simp [Ideal.ofBits, Ideal.ieee]
  rw [hz]
  simp only [out_apply]
  constructor
  · rintro ⟨⟨⟨⟨h, h0⟩, h1⟩, h2⟩, h3⟩
    refine ⟨h, fun i => ?_⟩
    match i with
    | 0 => exact h0
    | 1 => exact h1
    | 2 => exact h2
    | 3 => exact h3
  · exact fun h => ⟨⟨⟨⟨h.1, h.2 0⟩, h.2 1⟩, h.2 2⟩, h.2 3⟩

end Scene

/-! ### The body's two outputs -/

section Outputs

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec Ideal S1 .f32) (x1 : Vec Ideal S4x26x24x40960 .i32) (x2 : Vec Ideal S16x96x40960 .fp8e4m3) (x3 : Vec Ideal S27x160x96 .fp8e4m3) (x4 : Vec Ideal S27x160x1 .f32) (x5 : Vec Ideal S160x1 .f32) (x6 : Vec Ideal S16x160x40960 .f32)

/-- What the body leaves in the array of outputs. -/
theorem out_y (j : S16x160x40960.Idx) :
    (out0_A_7 c arg0 harg0 arg1 harg1 arg2 harg2 arg3 harg3 arg4 harg4 arg5 harg5 arg6 harg6 arg7 harg7 arg8 harg8 x0 x1 x2 x3 x4 x5 x6 j : EReal)
      = outY x0 x1 x2 x3 x4 x5 x6 j := by
  unfold out0_A_7
  rw [View.read_writes_junk_eq_canon, run_y]
  simp only [loaded_eq, View.readAt_eq_ld, harg6.read_unread]
  exact canon_y x0 x1 x2 x3 x4 x5 x6 j

/-- What the body leaves in the array of maxima. -/
theorem out_top :
    out0_A_8 c arg0 harg0 arg1 harg1 arg2 harg2 arg3 harg3 arg4 harg4 arg5 harg5 arg6 harg6 arg7 harg7 arg8 harg8 x0 x1 x2 x3 x4 x5 x6
      = top x0 x1 x2 x3 x4 x5 := by
  unfold out0_A_8
  rw [View.read_writes_junk_eq_canon, run_top, View.canon_unit_zero (by funext a; fin_cases a <;> rfl)]
  simp only [loaded_eq]
  rfl

end Outputs

/-! ### The arrays -/

section Arrays

variable (m : (ℓ : Loc nD τ sig) → Buf (Elt Ideal) ℓ) (c : Dev nD)

/-- The arguments, as arrays. -/
abbrev argA : S1.Idx → EReal := m (c.tc.loc main_arg0)
abbrev argG : S4x26x24x40960.Idx → BitVec 32 := m (c.tc.loc main_arg1)
abbrev argX : S16x96x40960.Idx → EReal := m (c.tc.loc main_arg2)
abbrev argW : S27x160x96.Idx → EReal := m (c.tc.loc main_arg3)
abbrev argS : S27x160x1.Idx → EReal := m (c.tc.loc main_arg4)
abbrev argB : S160x1.Idx → EReal := m (c.tc.loc main_arg5)
abbrev argY : S16x160x40960.Idx → EReal := m (c.tc.loc main_arg6)

theorem index_0 : ∀ t : Fin cfg0.N, ∀ a, win0_0.index t a = 0 := (by decide +kernel : ∀ t : Fin grid0.N, ∀ a, win0_0.index t a = 0)
theorem index_1 : ∀ t : Fin cfg0.N, ∀ a, win0_1.index t a = 0 := (by decide +kernel : ∀ t : Fin grid0.N, ∀ a, win0_1.index t a = 0)
theorem index_2 : ∀ t : Fin cfg0.N, ∀ a, win0_2.index t a = 0 := (by decide +kernel : ∀ t : Fin grid0.N, ∀ a, win0_2.index t a = 0)
theorem index_3 : ∀ t : Fin cfg0.N, ∀ a, win0_3.index t a = 0 := (by decide +kernel : ∀ t : Fin grid0.N, ∀ a, win0_3.index t a = 0)
theorem index_4 : ∀ t : Fin cfg0.N, ∀ a, win0_4.index t a = 0 := (by decide +kernel : ∀ t : Fin grid0.N, ∀ a, win0_4.index t a = 0)
theorem index_5 : ∀ t : Fin cfg0.N, ∀ a, win0_5.index t a = 0 := (by decide +kernel : ∀ t : Fin grid0.N, ∀ a, win0_5.index t a = 0)
theorem index_6 : ∀ t : Fin cfg0.N, ∀ a, win0_6.index t a = 0 := (by decide +kernel : ∀ t : Fin grid0.N, ∀ a, win0_6.index t a = 0)
theorem index_7 : ∀ t : Fin cfg0.N, ∀ a, win0_7.index t a = 0 := (by decide +kernel : ∀ t : Fin grid0.N, ∀ a, win0_7.index t a = 0)
theorem index_8 : ∀ t : Fin cfg0.N, ∀ a, win0_8.index t a = 0 := (by decide +kernel : ∀ t : Fin grid0.N, ∀ a, win0_8.index t a = 0)

theorem blk_0 (t : Fin cfg0.N) : (iblk m c 0 t : S1.Idx → EReal) = argA m c := by
  funext (j : S1.Idx)
  unfold iblk
  rw [View.read_apply]
  show V m c main_arg0 _ = m (c.tc.loc main_arg0) _
  rw [V_main_arg0]
  congr 1
  funext a
  apply Fin.ext
  show win0_0.index t a * S1.size a + 1 * (j a).val = (j a).val
  rw [index_0 t a]; omega

theorem blk_1 (t : Fin cfg0.N) : (iblk m c 1 t : S4x26x24x40960.Idx → BitVec 32) = argG m c := by
  funext (j : S4x26x24x40960.Idx)
  unfold iblk
  rw [View.read_apply]
  show V m c main_arg1 _ = m (c.tc.loc main_arg1) _
  rw [V_main_arg1]
  congr 1
  funext a
  apply Fin.ext
  show win0_1.index t a * S4x26x24x40960.size a + 1 * (j a).val = (j a).val
  rw [index_1 t a]; omega

theorem blk_2 (t : Fin cfg0.N) : (iblk m c 2 t : S16x96x40960.Idx → EReal) = argX m c := by
  funext (j : S16x96x40960.Idx)
  unfold iblk
  rw [View.read_apply]
  show V m c main_arg2 _ = m (c.tc.loc main_arg2) _
  rw [V_main_arg2]
  congr 1
  funext a
  apply Fin.ext
  show win0_2.index t a * S16x96x40960.size a + 1 * (j a).val = (j a).val
  rw [index_2 t a]; omega

theorem blk_3 (t : Fin cfg0.N) : (iblk m c 3 t : S27x160x96.Idx → EReal) = argW m c := by
  funext (j : S27x160x96.Idx)
  unfold iblk
  rw [View.read_apply]
  show V m c main_arg3 _ = m (c.tc.loc main_arg3) _
  rw [V_main_arg3]
  congr 1
  funext a
  apply Fin.ext
  show win0_3.index t a * S27x160x96.size a + 1 * (j a).val = (j a).val
  rw [index_3 t a]; omega

theorem blk_4 (t : Fin cfg0.N) : (iblk m c 4 t : S27x160x1.Idx → EReal) = argS m c := by
  funext (j : S27x160x1.Idx)
  unfold iblk
  rw [View.read_apply]
  show V m c main_arg4 _ = m (c.tc.loc main_arg4) _
  rw [V_main_arg4]
  congr 1
  funext a
  apply Fin.ext
  show win0_4.index t a * S27x160x1.size a + 1 * (j a).val = (j a).val
  rw [index_4 t a]; omega

theorem blk_5 (t : Fin cfg0.N) : (iblk m c 5 t : S160x1.Idx → EReal) = argB m c := by
  funext (j : S160x1.Idx)
  unfold iblk
  rw [View.read_apply]
  show V m c main_arg5 _ = m (c.tc.loc main_arg5) _
  rw [V_main_arg5]
  congr 1
  funext a
  apply Fin.ext
  show win0_5.index t a * S160x1.size a + 1 * (j a).val = (j a).val
  rw [index_5 t a]; omega

theorem blk_6 (t : Fin cfg0.N) : (iblk m c 6 t : S16x160x40960.Idx → EReal) = argY m c := by
  funext (j : S16x160x40960.Idx)
  unfold iblk
  rw [View.read_apply]
  show V m c main_arg6 _ = m (c.tc.loc main_arg6) _
  rw [V_main_arg6]
  congr 1
  funext a
  apply Fin.ext
  show win0_6.index t a * S16x160x40960.size a + 1 * (j a).val = (j a).val
  rw [index_6 t a]; omega

theorem emb_7 (t : Fin cfg0.N) (j : S16x160x40960.Idx) : ((cfg0.win 7).rect t).emb j = j := by
  funext a
  apply Fin.ext
  show win0_7.index t a * S16x160x40960.size a + 1 * (j a).val = (j a).val
  rw [index_7 t a]; omega

theorem mem_blk7 (t : Fin cfg0.N) (j : S16x160x40960.Idx) : j ∈ ((cfg0.win 7).blk t).view.set := by
  show j ∈ ((View.whole main_v0_0).slice (win0_7.rect t)).set
  rw [View.set_slice_whole, Rect.mem_set_unit]
  intro a
  show win0_7.index t a * _ ≤ (j a).val ∧ (j a).val < win0_7.index t a * _ + _
  rw [index_7 t a]
  exact ⟨by omega, by have := (j a).isLt; rw [Nat.zero_mul, Nat.zero_add]; exact this⟩

theorem emb_8 (t : Fin cfg0.N) (j : S8x128.Idx) : ((cfg0.win 8).rect t).emb j = j := by
  funext a
  apply Fin.ext
  show win0_8.index t a * S8x128.size a + 1 * (j a).val = (j a).val
  rw [index_8 t a]; omega

theorem mem_blk8 (t : Fin cfg0.N) (j : S8x128.Idx) : j ∈ ((cfg0.win 8).blk t).view.set := by
  show j ∈ ((View.whole main_v0_1).slice (win0_8.rect t)).set
  rw [View.set_slice_whole, Rect.mem_set_unit]
  intro a
  show win0_8.index t a * _ ≤ (j a).val ∧ (j a).val < win0_8.index t a * _ + _
  rw [index_8 t a]
  exact ⟨by omega, by have := (j a).isLt; rw [Nat.zero_mul, Nat.zero_add]; exact this⟩

/-- An array of maxima is its one block. -/
theorem read_8 (t : Fin cfg0.N) (T : S8x128.Idx → EReal) (y : S8x128.Idx) :
    (((cfg0.win 8).blk t).view.read (Elt Ideal) T : S8x128.Idx → EReal) y = T y := by
  rw [View.read_apply]
  exact congrArg T (emb_8 t y)

/-- An array of outputs is its one block. -/
theorem read_7 (t : Fin cfg0.N) (T : S16x160x40960.Idx → EReal) (y : S16x160x40960.Idx) :
    (((cfg0.win 7).blk t).view.read (Elt Ideal) T : S16x160x40960.Idx → EReal) y = T y := by
  rw [View.read_apply]
  exact congrArg T (emb_7 t y)

/-- The array of outputs is what the one point writes into it, … -/
theorem arr_of_7 (dat : Pipeline.Dat τ (Elt Ideal) Unit ℕ (UR sig nD τ) ℕ cfg0 c) (T : S16x160x40960.Idx → EReal)
    (h : ∀ t (y : S16x160x40960.Idx), (dat.flushed 7 t : S16x160x40960.Idx → EReal) y = T y) :
    (dat.arrAt 7 cfg0.N : S16x160x40960.Idx → EReal) = T := by
  have hG : ∀ t, (cfg0.win 7).flush t = true → dat.flushed 7 t = ((cfg0.win 7).blk t).view.read (Elt Ideal) T :=
    fun t _ => funext fun y => (h t y).trans (read_7 t T y).symm
  funext j
  exact dat.arrAt_apply_of_mem 7 _ hG cfg0.N t0_0 j t0_0.isLt (flush0_7 _) (mem_blk7 _ j)

/-- … and so is the array of maxima. -/
theorem arr_of_8 (dat : Pipeline.Dat τ (Elt Ideal) Unit ℕ (UR sig nD τ) ℕ cfg0 c) (T : S8x128.Idx → EReal)
    (h : ∀ t (y : S8x128.Idx), (dat.flushed 8 t : S8x128.Idx → EReal) y = T y) :
    (dat.arrAt 8 cfg0.N : S8x128.Idx → EReal) = T := by
  have hG : ∀ t, (cfg0.win 8).flush t = true → dat.flushed 8 t = ((cfg0.win 8).blk t).view.read (Elt Ideal) T :=
    fun t _ => funext fun y => (h t y).trans (read_8 t T y).symm
  funext j
  exact dat.arrAt_apply_of_mem 8 _ hG cfg0.N t0_0 j t0_0.isLt (flush0_8 _) (mem_blk8 _ j)

/-- The outputs after the run. -/
theorem arr_y : ((dats m 0 c).arrAt 7 cfg0.N : S16x160x40960.Idx → EReal)
    = outY (argA m c) (argG m c) (argX m c) (argW m c) (argS m c) (argB m c) (argY m c) := by
  refine arr_of_7 c (dats m 0 c) _ fun t y => ?_
  rw [flushed7_A]
  refine (out_y _ _ _ _ _ _ _ _ _ _ _ _ _ _ _ _ _ _ _ _ _ _ _ _ _ _ y).trans ?_
  rw [blk_0, blk_1, blk_2, blk_3, blk_4, blk_5, blk_6]

/-- The maxima after the run. -/
theorem arr_top : ((dats m 0 c).arrAt 8 cfg0.N : S8x128.Idx → EReal)
    = top (argA m c) (argG m c) (argX m c) (argW m c) (argS m c) (argB m c) := by
  refine arr_of_8 c (dats m 0 c) _ fun t y => ?_
  rw [flushed8_A, out_top, blk_0, blk_1, blk_2, blk_3, blk_4, blk_5]
  generalize top (argA m c) (argG m c) (argX m c) (argW m c) (argS m c) (argB m c) = T
  rfl

end Arrays

end Cert.Proof.Ref

end
-- ==== Proof.Shift.lean ====
/-
  The calls of the later scenes against the call of the first four: a call that starts at scene `f` is the first call on codes
  moved by `f` scenes. What that takes is stated here once, for every `f`.
-/
module

public import proofs.«01_k».proof.Proof.Arrays

@[expose] public section

set_option maxRecDepth 16384

noncomputable section

namespace Cert.Proof.Conv

open Cert.KernelIdeal Cert.KernelIdeal.Gen Idealize.ShloMosaic Idealize.ShloMosaic.TcCoe Idealize.ShloMosaic.ValueIdx

/-- The scenes' codes, scene `f` first. -/
def shift {α : Type} (f : ℕ) (X : S16x96x40960.Idx → α) : S16x96x40960.Idx → α :=
  fun j => X (ix3 ⟨((j 0).val + f) % 16, Nat.mod_lt _ (by decide)⟩ (j 1) (j 2))

/-- The outputs of a call that starts at scene `f`: the convolution in its four scenes, the array they were written into in the others. -/
def outAt (f : ℕ) (g : S4x26x24x40960.Idx → BitVec 32) (X : S16x96x40960.Idx → EReal) (w : S27x160x96.Idx → EReal)
    (s : S27x160x1.Idx → EReal) (a : EReal) (b : S160x1.Idx → EReal) (Y : S16x160x40960.Idx → EReal) : S16x160x40960.Idx → EReal := fun j =>
  if h : f ≤ (j 0).val ∧ (j 0).val < f + 4 then conv g (shift f X) w s a b ⟨(j 0).val - f, by omega⟩ (j 1) (j 2) else Y j

section Memory

variable (m : (ℓ : Loc nD τ sig) → Buf (Elt Ideal) ℓ) (c : Dev nD) (f : ℕ)

open Classical in
/-- The memory with the codes moved. -/
def moved : (ℓ : Loc nD τ sig) → Buf (Elt Ideal) ℓ :=
  Function.update m ((c : Thread nD τ).loc main_arg2) (shift f (argX m c))

theorem moved_arg2 : moved m c f ((c : Thread nD τ).loc main_arg2) = shift f (argX m c) := Function.update_self ..

theorem moved_arg0 : moved m c f ((c : Thread nD τ).loc main_arg0) = m ((c : Thread nD τ).loc main_arg0) := Function.update_of_ne (by simp) ..
theorem moved_arg1 : moved m c f ((c : Thread nD τ).loc main_arg1) = m ((c : Thread nD τ).loc main_arg1) := Function.update_of_ne (by simp) ..
theorem moved_arg3 : moved m c f ((c : Thread nD τ).loc main_arg3) = m ((c : Thread nD τ).loc main_arg3) := Function.update_of_ne (by simp) ..
theorem moved_arg4 : moved m c f ((c : Thread nD τ).loc main_arg4) = m ((c : Thread nD τ).loc main_arg4) := Function.update_of_ne (by simp) ..
theorem moved_arg5 : moved m c f ((c : Thread nD τ).loc main_arg5) = m ((c : Thread nD τ).loc main_arg5) := Function.update_of_ne (by simp) ..

/-- The blocks of the other arguments are not moved. -/
theorem same_blk (w : Fin cfg0.W) (t : Fin cfg0.N)
    (h : V (moved m c f) c (Pipeline.arrRef spec0 w) = V m c (Pipeline.arrRef spec0 w)) :
    iblk (moved m c f) c w t = iblk m c w t := by
  unfold iblk
  rw [h]

theorem same_blk0 (t : Fin cfg0.N) : iblk (moved m c f) c 0 t = iblk m c 0 t :=
  same_blk m c f 0 t ((V_main_arg0 _ c).trans ((moved_arg0 m c f).trans (V_main_arg0 m c).symm))
theorem same_blk1 (t : Fin cfg0.N) : iblk (moved m c f) c 1 t = iblk m c 1 t :=
  same_blk m c f 1 t ((V_main_arg1 _ c).trans ((moved_arg1 m c f).trans (V_main_arg1 m c).symm))
theorem same_blk3 (t : Fin cfg0.N) : iblk (moved m c f) c 3 t = iblk m c 3 t :=
  same_blk m c f 3 t ((V_main_arg3 _ c).trans ((moved_arg3 m c f).trans (V_main_arg3 m c).symm))
theorem same_blk4 (t : Fin cfg0.N) : iblk (moved m c f) c 4 t = iblk m c 4 t :=
  same_blk m c f 4 t ((V_main_arg4 _ c).trans ((moved_arg4 m c f).trans (V_main_arg4 m c).symm))
theorem same_blk5 (t : Fin cfg0.N) : iblk (moved m c f) c 5 t = iblk m c 5 t :=
  same_blk m c f 5 t ((V_main_arg5 _ c).trans ((moved_arg5 m c f).trans (V_main_arg5 m c).symm))

/-- The convolution on the moved codes. -/
theorem value_moved (i : Fin 4) (o : Fin 160) (v : Fin 40960) : value (moved m c f) c i o v
    = conv (argG m c) (shift f (argX m c)) (argW m c) (argS m c) (argA m c (ix1 0)) (argB m c) i o v := by
  unfold value
  rw [show argG (moved m c f) c = argG m c from moved_arg1 .., show argX (moved m c f) c = shift f (argX m c) from moved_arg2 ..,
    show argW (moved m c f) c = argW m c from moved_arg3 .., show argS (moved m c f) c = argS m c from moved_arg4 ..,
    show argA (moved m c f) c = argA m c from moved_arg0 .., show argB (moved m c f) c = argB m c from moved_arg5 ..]

/-- What bounds an entry of the maxima the last point leaves on the moved codes. -/
theorem left_top_moved (n : ℕ) (hn : n < cfg0.N) (hlast : n = 159) (r : Fin 8) (l : Fin 128) (z : EReal) :
    ((outsAt0 (moved m c f) c n hn).2.1 (ix2 r l) : EReal) ≤ z ↔
      Bounds (argG m c) (shift f (argX m c)) (argW m c) (argS m c) (argA m c (ix1 0)) (argB m c) r l z := by
  rw [left_top_last (moved m c f) c n hn hlast,
    show argG (moved m c f) c = argG m c from moved_arg1 .., show argX (moved m c f) c = shift f (argX m c) from moved_arg2 ..,
    show argW (moved m c f) c = argW m c from moved_arg3 .., show argS (moved m c f) c = argS m c from moved_arg4 ..,
    show argA (moved m c f) c = argA m c from moved_arg0 .., show argB (moved m c f) c = argB m c from moved_arg5 ..]

/-- The outputs of a call that starts at scene `f`, over the arguments. -/
abbrev outOf : S16x160x40960.Idx → EReal :=
  outAt f (argG m c) (argX m c) (argW m c) (argS m c) (argA m c (ix1 0)) (argB m c) (argY m c)

/-- What a point leaves on the moved codes is the outputs at its block, which is `f` scenes on. -/
theorem left_moved (t : Fin cfg0.N) (idx : Fin 3 → ℕ) (h0 : idx 0 = f + t.val / 40) (h1 : idx 1 = 0) (h2 : idx 2 = t.val % 40)
    (y : S1x160x1024.Idx) (e : S16x160x40960.Idx) (he : ∀ a, (e a).val = idx a * S1x160x1024.size a + 1 * (y a).val) :
    ((outsAt0 (moved m c f) c t.val t.isLt).1 y : EReal) = outOf m c f e := by
  have ht := lt_N t
  have hy : (y 0).val < 1 := (y 0).isLt
  have e0 : (e 0).val = idx 0 * 1 + 1 * (y 0).val := he 0
  have e1 : (e 1).val = idx 1 * 160 + 1 * (y 1).val := he 1
  have e2 : (e 2).val = idx 2 * 1024 + 1 * (y 2).val := he 2
  rw [h0] at e0
  rw [h1] at e1
  rw [h2] at e2
  refine (left_y _ c t.val t.isLt y).trans ((value_moved m c f _ _ _).trans ?_)
  unfold outOf outAt
  rw [dif_pos (by omega)]
  congr 1
  · exact Fin.ext (by show t.val / 40 = (e 0).val - f; omega)
  · exact Fin.ext (by show (y 1).val = (e 1).val; omega)
  · exact Fin.ext (by show 1024 * (t.val % 40) + (y 2).val = (e 2).val; omega)

end Memory

/-- Where a point's block of outputs is, when it is `f` scenes on. -/
theorem in_block (f t : ℕ) (idx : Fin 3 → ℕ) (h0 : idx 0 = f + t / 40) (h1 : idx 1 = 0) (h2 : idx 2 = t % 40) (j : S16x160x40960.Idx)
    (hf : f ≤ (j 0).val) (ht : t = 40 * ((j 0).val - f) + (j 2).val / 1024) (a : Fin 3) :
    idx a * S1x160x1024.size a ≤ (j a).val ∧ (j a).val < idx a * S1x160x1024.size a + S1x160x1024.size a := by
  have hj1 : (j 1).val < 160 := (j 1).isLt
  have hj2 : (j 2).val < 40960 := (j 2).isLt
  match a with
  | ⟨0, _⟩ =>
    show idx 0 * 1 ≤ (j 0).val ∧ (j 0).val < idx 0 * 1 + 1
    rw [h0]; omega
  | ⟨1, _⟩ =>
    show idx 1 * 160 ≤ (j 1).val ∧ (j 1).val < idx 1 * 160 + 160
    rw [h1]; omega
  | ⟨2, _⟩ =>
    show idx 2 * 1024 ≤ (j 2).val ∧ (j 2).val < idx 2 * 1024 + 1024
    rw [h2]; omega

end Cert.Proof.Conv

end
-- ==== Proof.RefShift.lean ====
/-
  The references of the calls of the later scenes, over the extended reals: a scene read `f` scenes on is the scene of the moved
  codes, and the pieces stored `f` scenes on, with the rest passed through, hold the outputs. Stated once, for every `f`.
-/
module

public import proofs.«01_k».proof.Proof.Ref
public import proofs.«01_k».proof.Proof.Shift

@[expose] public section

set_option maxRecDepth 16384

noncomputable section

namespace Cert.Proof.Ref

open Cert.ReferenceIdeal Cert.ReferenceIdeal.Gen Idealize.ShloMosaic Idealize.ShloMosaic.TcCoe
  Idealize.ShloMosaic.ValueIdx Cert.Proof.Conv

theorem inb_mid_at (f : ℕ) (hf : f ≤ 12) (i : Fin 4) :
    ∀ a, (![f + i.val, 0, 0] : Fin 3 → ℕ) a + S1x96x40960.size a ≤ S16x96x40960.size a := by
  intro a
  match a with
  | ⟨0, _⟩ => show f + i.val + 1 ≤ 16; omega
  | ⟨1, _⟩ => show 0 + 96 ≤ 96; omega
  | ⟨2, _⟩ => show 0 + 40960 ≤ 40960; omega
theorem inb_out_at (f : ℕ) (hf : f ≤ 12) (i : Fin 4) :
    ∀ a, (![f + i.val, 0, 0] : Fin 3 → ℕ) a + S1x160x40960.size a ≤ S16x160x40960.size a := by
  intro a
  match a with
  | ⟨0, _⟩ => show f + i.val + 1 ≤ 16; omega
  | ⟨1, _⟩ => show 0 + 160 ≤ 160; omega
  | ⟨2, _⟩ => show 0 + 40960 ≤ 40960; omega

/-- One scene's own codes and its outputs, `f` scenes on. -/
abbrev rectMidAt (f : ℕ) (hf : f ≤ 12) (i : Fin 4) : Rect S16x96x40960 := Rect.unit ![f + i.val, 0, 0] S1x96x40960.size (inb_mid_at f hf i)
abbrev rectOutAt (f : ℕ) (hf : f ≤ 12) (i : Fin 4) : Rect S16x160x40960 := Rect.unit ![f + i.val, 0, 0] S1x160x40960.size (inb_out_at f hf i)

section Body

variable {F : FTy → Type} [FloatOps F] (f : ℕ) (hf : f ≤ 12)

/-- The codes of a scene `f` scenes on are the moved codes of the scene. -/
theorem ld_mid_at (x2 : Vec F S16x96x40960 .fp8e4m3) (i : Fin 4) :
    (View.ld x2 (rectMidAt f hf i) : Vec F S1x96x40960 .fp8e4m3) = View.ld (shift f x2 : Vec F S16x96x40960 .fp8e4m3) (rectMid i) := by
  funext (y : S1x96x40960.Idx)
  show x2 _ = x2 _
  congr 1
  funext a
  apply Fin.ext
  have hy : (y 0).val < 1 := (y 0).isLt
  match a with
  | ⟨0, _⟩ => show f + i.val + 1 * (y 0).val = (i.val + 1 * (y 0).val + f) % 16; omega
  | ⟨1, _⟩ => rfl
  | ⟨2, _⟩ => rfl

variable (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole)
  (x0 : Vec F S1 .f32) (x1 : Vec F S4x26x24x40960 .i32) (x2 : Vec F S16x96x40960 .fp8e4m3) (x3 : Vec F S27x160x96 .fp8e4m3) (x4 : Vec F S27x160x1 .f32) (x5 : Vec F S160x1 .f32)

/-- One scene's outputs, over what the body loads `f` scenes on. -/
def loadedAt (i : Fin 4) : FVec F S160x40960 .f32 :=
  k0_pay1 (arg1.view.readAt (Elt F) (rectLo i).toLoadRect (harg1.unread x1)) (arg2.view.readAt (Elt F) (rectMidAt f hf i).toLoadRect (harg2.unread x2))
    (arg1.view.readAt (Elt F) (rectHi i).toLoadRect (harg1.unread x1)) (arg3.view.readAt (Elt F) rectW.toLoadRect (harg3.unread x3))
    (arg4.view.readAt (Elt F) rectS.toLoadRect (harg4.unread x4))
    (arg0.view.readAt (Elt F) (Rect.unit (s := S1) ![0] S1.size inb_S1_S1_0).toLoadRect (harg0.unread x0) (Shape.Idx.first (s := S1) (by decide)))
    (arg5.view.readAt (Elt F) rectB.toLoadRect (harg5.unread x5))

theorem loadedAt_eq (i : Fin 4) :
    loadedAt f hf arg0 harg0 arg1 harg1 arg2 harg2 arg3 harg3 arg4 harg4 arg5 harg5 x0 x1 x2 x3 x4 x5 i = out x0 x1 (shift f x2) x3 x4 x5 i := by
  unfold loadedAt out
  simp only [View.readAt_eq_ld, harg0.read_unread, harg1.read_unread, harg2.read_unread, harg3.read_unread, harg4.read_unread,
    harg5.read_unread]
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  exact congrArg (fun z => k0_pay1 _ z _ x3 x4 _ x5) (ld_mid_at f hf x2 i)

end Body

section Pieces

variable (f : ℕ) (hf : f ≤ 12) (x0 : Vec Ideal S1 .f32) (x1 : Vec Ideal S4x26x24x40960 .i32) (x2 : Vec Ideal S16x96x40960 .fp8e4m3)
  (x3 : Vec Ideal S27x160x96 .fp8e4m3) (x4 : Vec Ideal S27x160x1 .f32) (x5 : Vec Ideal S160x1 .f32) (x6 : Vec Ideal S16x160x40960 .f32)

/-- The outputs of the reference that starts at scene `f`. -/
abbrev outYAt : S16x160x40960.Idx → EReal := outAt f x1 x2 x3 x4 (x0 (ix1 0)) x5 x6

/-- A scene stored `f` scenes on is the outputs there. -/
theorem piece_out_at (i : Fin 4) (y : S1x160x40960.Idx) :
    (shapeCast S1x160x40960 (out x0 x1 (shift f x2) x3 x4 x5 i) shapeCasts_S160x40960_S1x160x40960 y : EReal)
      = outYAt f x0 x1 x2 x3 x4 x5 x6 ((rectOutAt f hf i).emb y) := by
  obtain ⟨u, o, p, rfl⟩ : ∃ (u : Fin 1) (o : Fin 160) (p : Fin 40960), y = ix3 u o p := ⟨_, _, _, eq_ix3 y⟩
  rw [cast2_3 _ shapeCasts_S160x40960_S1x160x40960 u o p, out_apply]
  have e0 : ((rectOutAt f hf i).emb (ix3 u o p) 0).val = f + i.val := by
    show f + i.val + 1 * u.val = _; omega
  have e1 : ((rectOutAt f hf i).emb (ix3 u o p) 1).val = o.val := by
    show 0 + 1 * o.val = _; omega
  have e2 : ((rectOutAt f hf i).emb (ix3 u o p) 2).val = p.val := by
    show 0 + 1 * p.val = _; omega
  unfold outYAt outAt
  rw [dif_pos (by omega)]
  congr 1
  · exact Fin.ext (by show i.val = _ - f; omega)
  · exact Fin.ext e1.symm
  · exact Fin.ext e2.symm

/-- The scenes from `n` on, `l` of them. -/
abbrev rectScenes (n l : ℕ) (h : ∀ a, (![n, 0, 0] : Fin 3 → ℕ) a + (![l, 160, 40960] : Fin 3 → ℕ) a ≤ S16x160x40960.size a) :
    Rect S16x160x40960 := Rect.unit ![n, 0, 0] ![l, 160, 40960] h

/-- A part of the rest, passed through, is the outputs there. -/
theorem piece_scenes (n l : ℕ) (h : ∀ a, (![n, 0, 0] : Fin 3 → ℕ) a + (![l, 160, 40960] : Fin 3 → ℕ) a ≤ S16x160x40960.size a)
    (hn : n + l ≤ f ∨ f + 4 ≤ n) (y : (rectScenes n l h).shape.Idx) :
    (View.ld x6 (rectScenes n l h) y : EReal) = outYAt f x0 x1 x2 x3 x4 x5 x6 ((rectScenes n l h).emb y) := by
  have hy : (y 0).val < l := (y 0).isLt
  have e : ((rectScenes n l h).emb y 0).val = n + 1 * (y 0).val := rfl
  have hno : ¬ (f ≤ ((rectScenes n l h).emb y 0).val ∧ ((rectScenes n l h).emb y 0).val < f + 4) := by rw [e]; omega
  unfold outYAt outAt
  rw [dif_neg hno]
  rfl

theorem mem_scenes (j : S16x160x40960.Idx) (n l : ℕ)
    (h : ∀ a, (![n, 0, 0] : Fin 3 → ℕ) a + (![l, 160, 40960] : Fin 3 → ℕ) a ≤ S16x160x40960.size a)
    (h0 : n ≤ (j 0).val) (h1 : (j 0).val < n + l) : j ∈ (rectScenes n l h).set := by
  have hj1 : (j 1).val < 160 := (j 1).isLt
  have hj2 : (j 2).val < 40960 := (j 2).isLt
  rw [Rect.mem_set_unit]
  intro a
  match a with
  | ⟨0, _⟩ => exact ⟨h0, h1⟩
  | ⟨1, _⟩ => show 0 ≤ (j 1).val ∧ (j 1).val < 0 + 160; omega
  | ⟨2, _⟩ => show 0 ≤ (j 2).val ∧ (j 2).val < 0 + 40960; omega

/-- The stored pieces hold the outputs: the four scenes, and pieces `L` that hold and cover the rest. -/
theorem canon_at (L : List (View.Piece (Elt Ideal) S16x160x40960 .f32))
    (hL : ∀ P ∈ L, ∀ y : P.1.shape.Idx, (P.2 y : EReal) = outYAt f x0 x1 x2 x3 x4 x5 x6 (P.1.emb y))
    (hc : ∀ j : S16x160x40960.Idx, ¬ (f ≤ (j 0).val ∧ (j 0).val < f + 4) → ∃ P ∈ L, j ∈ P.1.set) (j : S16x160x40960.Idx) :
    (View.canon (Val := Elt Ideal) (e := .f32) (L ++
        [⟨rectOutAt f hf 3, shapeCast S1x160x40960 (out x0 x1 (shift f x2) x3 x4 x5 3) shapeCasts_S160x40960_S1x160x40960⟩,
        ⟨rectOutAt f hf 2, shapeCast S1x160x40960 (out x0 x1 (shift f x2) x3 x4 x5 2) shapeCasts_S160x40960_S1x160x40960⟩,
        ⟨rectOutAt f hf 1, shapeCast S1x160x40960 (out x0 x1 (shift f x2) x3 x4 x5 1) shapeCasts_S160x40960_S1x160x40960⟩,
        ⟨rectOutAt f hf 0, shapeCast S1x160x40960 (out x0 x1 (shift f x2) x3 x4 x5 0) shapeCasts_S160x40960_S1x160x40960⟩]) j : EReal)
      = outYAt f x0 x1 x2 x3 x4 x5 x6 j := by
  refine View.canon_apply_of_pieces (Val := Elt Ideal) (e := .f32) (outYAt f x0 x1 x2 x3 x4 x5 x6) _ (fun P hP y => ?_) j ?_
  · rcases List.mem_append.1 hP with hP | hP
    · exact hL P hP y
    · simp only [List.mem_cons, List.not_mem_nil, or_false] at hP
      rcases hP with rfl | rfl | rfl | rfl
      all_goals exact piece_out_at f hf x0 x1 x2 x3 x4 x5 x6 _ y
  · by_cases h4 : f ≤ (j 0).val ∧ (j 0).val < f + 4
    · have hout : ∀ i : Fin 4, (j 0).val = f + i.val → j ∈ (rectOutAt f hf i).set :=
        fun i hi => mem_scenes j (f + i.val) 1 (inb_out_at f hf i) (by omega) (by omega)
      have : (j 0).val = f + 3 ∨ (j 0).val = f + 2 ∨ (j 0).val = f + 1 ∨ (j 0).val = f + 0 := by omega
      rcases this with h | h | h | h
      · exact ⟨_, List.mem_append_right _ (.head _), hout 3 h⟩
      · exact ⟨_, List.mem_append_right _ (.tail _ (.head _)), hout 2 h⟩
      · exact ⟨_, List.mem_append_right _ (.tail _ (.tail _ (.head _))), hout 1 h⟩
      · exact ⟨_, List.mem_append_right _ (.tail _ (.tail _ (.tail _ (.head _)))), hout 0 h⟩
    · obtain ⟨P, hP, hj⟩ := hc j h4
      exact ⟨P, List.mem_append_left _ hP, hj⟩

end Pieces

end Cert.Proof.Ref

end
-- ==== Proof.Conv4.lean ====
/-
  The call that starts at scene 4: its arrays over the extended reals, by the first call's.
-/
module

public import proofs.«01_k».proof.Proof.Shift
public import proofs.«01_k».proof.Proof.Gen.Kernel4Ideal.Value

@[expose] public section

set_option maxRecDepth 16384

noncomputable section

namespace Cert.Proof.Conv4

open Cert.Kernel4Ideal Cert.Kernel4Ideal.Gen Cert.Kernel4Ideal.Value Idealize.ShloMosaic Idealize.ShloMosaic.TcCoe
  Idealize.ShloMosaic.ValueIdx Cert.Proof.Conv

variable (m : (ℓ : Loc nD τ sig) → Buf (Elt Ideal) ℓ) (c : Dev nD)

/-- The first call's memory. -/
abbrev first : (ℓ : Loc Cert.KernelIdeal.nD Cert.KernelIdeal.τ Cert.KernelIdeal.sig) → Buf (Elt Ideal) ℓ := m

theorem blk_0 (t : Fin cfg0.N) : iblk m c 0 t = Cert.KernelIdeal.Gen.iblk (moved (first m) c 4) c 0 t := (same_blk0 (first m) c 4 t).symm
theorem blk_1 (t : Fin cfg0.N) : iblk m c 1 t = Cert.KernelIdeal.Gen.iblk (moved (first m) c 4) c 1 t := (same_blk1 (first m) c 4 t).symm
theorem blk_3 (t : Fin cfg0.N) : iblk m c 3 t = Cert.KernelIdeal.Gen.iblk (moved (first m) c 4) c 3 t := (same_blk3 (first m) c 4 t).symm
theorem blk_4 (t : Fin cfg0.N) : iblk m c 4 t = Cert.KernelIdeal.Gen.iblk (moved (first m) c 4) c 4 t := (same_blk4 (first m) c 4 t).symm
theorem blk_5 (t : Fin cfg0.N) : iblk m c 5 t = Cert.KernelIdeal.Gen.iblk (moved (first m) c 4) c 5 t := (same_blk5 (first m) c 4 t).symm

theorem index_2 : ∀ t : Fin cfg0.N, win0_2.index t 0 = 4 + t.val / 40 ∧ win0_2.index t 1 = 0 ∧ win0_2.index t 2 = t.val % 40 :=
  (by decide +kernel : ∀ t : Fin grid0.N, win0_2.index t 0 = 4 + t.val / 40 ∧ win0_2.index t 1 = 0 ∧ win0_2.index t 2 = t.val % 40)
theorem index_6 : ∀ t : Fin cfg0.N, win0_6.index t 0 = 4 + t.val / 40 ∧ win0_6.index t 1 = 0 ∧ win0_6.index t 2 = t.val % 40 :=
  (by decide +kernel : ∀ t : Fin grid0.N, win0_6.index t 0 = 4 + t.val / 40 ∧ win0_6.index t 1 = 0 ∧ win0_6.index t 2 = t.val % 40)

theorem blk_2 (t : Fin cfg0.N) : iblk m c 2 t = Cert.KernelIdeal.Gen.iblk (moved (first m) c 4) c 2 t := by
  obtain ⟨h0, h1, h2⟩ := index_2 t
  have ht : t.val < 160 := t.isLt
  funext (j : S1x96x1024.Idx)
  obtain ⟨u, r, p, rfl⟩ : ∃ (u : Fin 1) (r : Fin 96) (p : Fin 1024), j = ix3 u r p := ⟨_, _, _, eq_ix3 j⟩
  obtain rfl : u = 0 := Subsingleton.elim _ _
  refine Eq.trans ?_ (Conv.blk_2 (moved (first m) c 4) c t r p).symm
  rw [show argX (moved (first m) c 4) c = shift 4 (argX (first m) c) from moved_arg2 ..]
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = (t.val / 40 + 4) % 16; rw [h0]; omega
  | ⟨1, _⟩ => show win0_2.index t 1 * 96 + 1 * r.val = r.val; rw [h1]; omega
  | ⟨2, _⟩ => show win0_2.index t 2 * 1024 + 1 * p.val = 1024 * (t.val % 40) + p.val; rw [h2]; omega

/-- The body at a later point is the first call's. -/
theorem outB_6 : @out0_B_6 Ideal _ = @Cert.KernelIdeal.Gen.out0_B_6 Ideal _ := rfl
theorem outB_7 : @out0_B_7 Ideal _ = @Cert.KernelIdeal.Gen.out0_B_7 Ideal _ := rfl

/-- What a point leaves is what the first call's leaves on the moved codes. -/
theorem left_eq (n : ℕ) : ∀ (hn : n < cfg0.N),
    outsAt0 m c n hn = Cert.KernelIdeal.Gen.outsAt0 (moved (first m) c 4) c n hn := by
  have hN : cfg0.N = 160 := N_0
  induction n with
  | zero =>
    intro hn
    have h := outsAt0_A m c ⟨0, hn⟩ (Nat.zero_mod _)
    have h' := Cert.KernelIdeal.Gen.outsAt0_A (moved (first m) c 4) c ⟨0, hn⟩ (Nat.zero_mod _)
    dsimp only at h h'
    rw [h, blk_0, blk_1, blk_2, blk_3, blk_4, blk_5]
    exact Eq.trans rfl h'.symm
  | succ n ih =>
    intro hn
    have h := outsAt0_B m c ⟨n + 1, hn⟩ (by show ¬ (n + 1) % 160 = 0; omega)
    have h' := Cert.KernelIdeal.Gen.outsAt0_B (moved (first m) c 4) c ⟨n + 1, hn⟩ (by show ¬ (n + 1) % 160 = 0; omega)
    have hp := ih (by omega)
    simp only [Nat.add_sub_cancel] at h h'
    refine h.trans (Eq.trans ?_ h'.symm)
    rw [blk_0, blk_1, blk_2, blk_3, blk_4, blk_5, hp, outB_6, outB_7, outB_y, outB_top, outB_y, outB_top]
    rfl

/-- The array the outputs are written into holds the argument's copy at entry. -/
theorem entry_y : (V m c main_v0_0 : S16x160x40960.Idx → EReal) = m ((c : Thread nD τ).loc main_arg6) := by
  unfold V
  simp [hostOps0, StableHlo.unary]

/-- The point that writes a position of the four scenes. -/
theorem mem_blk6 (t : Fin cfg0.N) (j : S16x160x40960.Idx) (hf : 4 ≤ (j 0).val) (ht : t.val = 40 * ((j 0).val - 4) + (j 2).val / 1024) :
    j ∈ ((cfg0.win 6).blk t).view.set := by
  obtain ⟨h0, h1, h2⟩ := index_6 t
  show j ∈ ((View.whole main_v0_0).slice (win0_6.rect t)).set
  rw [View.set_slice_whole, Rect.mem_set_unit]
  exact in_block 4 _ _ h0 h1 h2 j hf ht

/-- The outputs. -/
theorem arr_y : ((dats m 0 c).arrAt 6 cfg0.N : S16x160x40960.Idx → EReal) = outOf (first m) c 4 := by
  funext j
  have hG : ∀ t, (cfg0.win 6).flush t = true →
      (dats m 0 c).flushed 6 t = ((cfg0.win 6).blk t).view.read (Elt Ideal) (outOf (first m) c 4) := by
    intro t _
    obtain ⟨h0, h1, h2⟩ := index_6 t
    rw [flushed6, left_eq]
    funext (y : S1x160x1024.Idx)
    rw [View.read_apply]
    exact left_moved (first m) c 4 t (win0_6.index t) h0 h1 h2 y (((cfg0.win 6).rect t).emb y) fun _ => rfl
  rw [(dats m 0 c).arrAt_eq_piecewise 6 (outOf (first m) c 4) hG j]
  split
  · rfl
  · rename_i hno
    by_cases h4 : 4 ≤ (j 0).val ∧ (j 0).val < 4 + 4
    · exfalso
      have hj2 : (j 2).val < 40960 := (j 2).isLt
      have hN : cfg0.N = 160 := N_0
      exact hno ⟨⟨40 * ((j 0).val - 4) + (j 2).val / 1024, by omega⟩, flush0_6 _, mem_blk6 _ j h4.1 rfl⟩
    · refine Eq.trans ?_ (dif_neg h4).symm
      exact congrFun (entry_y m c) j

/-- The maxima are what the last point leaves. -/
theorem arr_top (n : ℕ) (hn : n < cfg0.N) (hlast : n = 159) : ((dats m 0 c).arrAt 7 cfg0.N : S8x128.Idx → EReal)
    = (Cert.KernelIdeal.Gen.outsAt0 (moved (first m) c 4) c n hn).2.1 := by
  have hG : ∀ t, (cfg0.win 7).flush t = true → (dats m 0 c).flushed 7 t
      = ((cfg0.win 7).blk t).view.read (Elt Ideal) (Cert.KernelIdeal.Gen.outsAt0 (moved (first m) c 4) c n hn).2.1 := by
    intro t hf
    have ht : t.val = n := by have := (flush0_7 t).1 hf; have : t.val < 160 := t.isLt; omega
    rw [flushed7, left_eq]
    funext (y : S8x128.Idx)
    rw [View.read_apply]
    show ((Cert.KernelIdeal.Gen.outsAt0 (moved (first m) c 4) c t.val t.isLt).2.1 y : EReal)
      = (Cert.KernelIdeal.Gen.outsAt0 (moved (first m) c 4) c n hn).2.1 (((Cert.KernelIdeal.cfg0.win 7).rect t).emb y)
    rw [emb7]
    simp only [ht]
  funext j
  exact (dats m 0 c).arrAt_apply_of_mem 7 _ hG cfg0.N ⟨n, hn⟩ j hn
    ((flush0_7 _).2 (by show n % 160 = 159; omega)) (mem_blk7 _ j)

end Cert.Proof.Conv4

end
-- ==== Proof.Ref4.lean ====
/-
  The reference of the call that starts at scene 4: its arrays over the extended reals.
-/
module

public import proofs.«01_k».proof.Proof.RefShift
public import proofs.«01_k».proof.Proof.Gen.Reference4Ideal.Value

@[expose] public section

set_option maxRecDepth 16384

noncomputable section

namespace Cert.Proof.Ref4

open Cert.Reference4Ideal Cert.Reference4Ideal.Gen Cert.Reference4Ideal.Value Idealize.ShloMosaic Idealize.ShloMosaic.TcCoe
  Idealize.ShloMosaic.ValueIdx Cert.Proof.Ref
open Cert.Proof.Conv (shift)

section Body

variable {F : FTy → Type} [FloatOps F]

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec F S1 .f32) (x1 : Vec F S4x26x24x40960 .i32) (x2 : Vec F S16x96x40960 .fp8e4m3) (x3 : Vec F S27x160x96 .fp8e4m3) (x4 : Vec F S27x160x1 .f32) (x5 : Vec F S160x1 .f32) (x6 : Vec F S16x160x40960 .f32)

/-- A scene's outputs, over what the body loads. -/
abbrev scene (i : Fin 4) : FVec F S160x40960 .f32 :=
  loadedAt 4 (by decide) arg0 harg0 arg1 harg1 arg2 harg2 arg3 harg3 arg4 harg4 arg5 harg5 x0 x1 x2 x3 x4 x5 i

theorem run_y :
    (kernelRun0_A c arg0 harg0 arg1 harg1 arg2 harg2 arg3 harg3 arg4 harg4 arg5 harg5 arg6 harg6 arg7 harg7 arg8 harg8 x0 x1 x2 x3 x4 x5 x6).1
      = [⟨rectScenes 8 8 (by decide), arg6.view.readAt (Elt F) (rectScenes 8 8 (by decide)).toLoadRect (harg6.unread x6)⟩,
        ⟨rectScenes 0 4 (by decide), arg6.view.readAt (Elt F) (rectScenes 0 4 (by decide)).toLoadRect (harg6.unread x6)⟩] ++
        [⟨rectOutAt 4 (by decide) 3, shapeCast S1x160x40960 (scene arg0 harg0 arg1 harg1 arg2 harg2 arg3 harg3 arg4 harg4 arg5 harg5 x0 x1 x2 x3 x4 x5 3) shapeCasts_S160x40960_S1x160x40960⟩,
        ⟨rectOutAt 4 (by decide) 2, shapeCast S1x160x40960 (scene arg0 harg0 arg1 harg1 arg2 harg2 arg3 harg3 arg4 harg4 arg5 harg5 x0 x1 x2 x3 x4 x5 2) shapeCasts_S160x40960_S1x160x40960⟩,
        ⟨rectOutAt 4 (by decide) 1, shapeCast S1x160x40960 (scene arg0 harg0 arg1 harg1 arg2 harg2 arg3 harg3 arg4 harg4 arg5 harg5 x0 x1 x2 x3 x4 x5 1) shapeCasts_S160x40960_S1x160x40960⟩,
        ⟨rectOutAt 4 (by decide) 0, shapeCast S1x160x40960 (scene arg0 harg0 arg1 harg1 arg2 harg2 arg3 harg3 arg4 harg4 arg5 harg5 x0 x1 x2 x3 x4 x5 0) shapeCasts_S160x40960_S1x160x40960⟩] := rfl

theorem run_top :
    (kernelRun0_A c arg0 harg0 arg1 harg1 arg2 harg2 arg3 harg3 arg4 harg4 arg5 harg5 arg6 harg6 arg7 harg7 arg8 harg8 x0 x1 x2 x3 x4 x5 x6).2.1
      = [⟨rectTop, peakStep (peakStep (peakStep (peakStep (broadcast S8x128 (Scalar.ofBits .f32 0x00000000#32))
          (scene arg0 harg0 arg1 harg1 arg2 harg2 arg3 harg3 arg4 harg4 arg5 harg5 x0 x1 x2 x3 x4 x5 0))
          (scene arg0 harg0 arg1 harg1 arg2 harg2 arg3 harg3 arg4 harg4 arg5 harg5 x0 x1 x2 x3 x4 x5 1))
          (scene arg0 harg0 arg1 harg1 arg2 harg2 arg3 harg3 arg4 harg4 arg5 harg5 x0 x1 x2 x3 x4 x5 2))
          (scene arg0 harg0 arg1 harg1 arg2 harg2 arg3 harg3 arg4 harg4 arg5 harg5 x0 x1 x2 x3 x4 x5 3)⟩] := rfl

end Body

section Outputs

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec Ideal S1 .f32) (x1 : Vec Ideal S4x26x24x40960 .i32) (x2 : Vec Ideal S16x96x40960 .fp8e4m3) (x3 : Vec Ideal S27x160x96 .fp8e4m3) (x4 : Vec Ideal S27x160x1 .f32) (x5 : Vec Ideal S160x1 .f32) (x6 : Vec Ideal S16x160x40960 .f32)

/-- What the body leaves in the array of outputs. -/
theorem out_y (j : S16x160x40960.Idx) :
    (out0_A_7 c arg0 harg0 arg1 harg1 arg2 harg2 arg3 harg3 arg4 harg4 arg5 harg5 arg6 harg6 arg7 harg7 arg8 harg8 x0 x1 x2 x3 x4 x5 x6 j : EReal)
      = outYAt 4 x0 x1 x2 x3 x4 x5 x6 j := by
  unfold out0_A_7
  rw [View.read_writes_junk_eq_canon, run_y]
  simp only [scene, loadedAt_eq, View.readAt_eq_ld, harg6.read_unread]
  refine canon_at 4 (by decide) x0 x1 x2 x3 x4 x5 x6 _ (fun P hP y => ?_) (fun i hi => ?_) j
  · simp only [List.mem_cons, List.not_mem_nil, or_false] at hP
    rcases hP with rfl | rfl
    · exact piece_scenes 4 x0 x1 x2 x3 x4 x5 x6 8 8 (by decide) (.inr (by decide)) y
    · exact piece_scenes 4 x0 x1 x2 x3 x4 x5 x6 0 4 (by decide) (.inl (by decide)) y
  · have hi0 : (i 0).val < 16 := (i 0).isLt
    by_cases h : (i 0).val < 4
    · exact ⟨_, .tail _ (.head _), mem_scenes i 0 4 (by decide) (by omega) (by omega)⟩
    · exact ⟨_, .head _, mem_scenes i 8 8 (by decide) (by omega) (by omega)⟩

/-- What the body leaves in the array of maxima. -/
theorem out_top :
    out0_A_8 c arg0 harg0 arg1 harg1 arg2 harg2 arg3 harg3 arg4 harg4 arg5 harg5 arg6 harg6 arg7 harg7 arg8 harg8 x0 x1 x2 x3 x4 x5 x6
      = top x0 x1 (shift 4 x2) x3 x4 x5 := by
  unfold out0_A_8
  rw [View.read_writes_junk_eq_canon, run_top, View.canon_unit_zero (by funext a; fin_cases a <;> rfl)]
  simp only [scene, loadedAt_eq]
  rfl

end Outputs

section Arrays

variable (m : (ℓ : Loc nD τ sig) → Buf (Elt Ideal) ℓ) (c : Dev nD)

/-- The first reference's memory. -/
abbrev first : (ℓ : Loc Cert.ReferenceIdeal.nD Cert.ReferenceIdeal.τ Cert.ReferenceIdeal.sig) → Buf (Elt Ideal) ℓ := m

theorem blk_0 (t : Fin cfg0.N) : (iblk m c 0 t : S1.Idx → EReal) = argA (first m) c := Ref.blk_0 (first m) c t
theorem blk_1 (t : Fin cfg0.N) : (iblk m c 1 t : S4x26x24x40960.Idx → BitVec 32) = argG (first m) c := Ref.blk_1 (first m) c t
theorem blk_2 (t : Fin cfg0.N) : (iblk m c 2 t : S16x96x40960.Idx → EReal) = argX (first m) c := Ref.blk_2 (first m) c t
theorem blk_3 (t : Fin cfg0.N) : (iblk m c 3 t : S27x160x96.Idx → EReal) = argW (first m) c := Ref.blk_3 (first m) c t
theorem blk_4 (t : Fin cfg0.N) : (iblk m c 4 t : S27x160x1.Idx → EReal) = argS (first m) c := Ref.blk_4 (first m) c t
theorem blk_5 (t : Fin cfg0.N) : (iblk m c 5 t : S160x1.Idx → EReal) = argB (first m) c := Ref.blk_5 (first m) c t
theorem blk_6 (t : Fin cfg0.N) : (iblk m c 6 t : S16x160x40960.Idx → EReal) = argY (first m) c := Ref.blk_6 (first m) c t

/-- The outputs after the run. -/
theorem arr_y : ((dats m 0 c).arrAt 7 cfg0.N : S16x160x40960.Idx → EReal)
    = outYAt 4 (argA (first m) c) (argG (first m) c) (argX (first m) c) (argW (first m) c) (argS (first m) c) (argB (first m) c) (argY (first m) c) := by
  refine arr_of_7 c (dats m 0 c) _ fun t y => ?_
  rw [flushed7_A]
  refine (out_y _ _ _ _ _ _ _ _ _ _ _ _ _ _ _ _ _ _ _ _ _ _ _ _ _ _ y).trans ?_
  rw [blk_0, blk_1, blk_2, blk_3, blk_4, blk_5, blk_6]

/-- The maxima after the run. -/
theorem arr_top : ((dats m 0 c).arrAt 8 cfg0.N : S8x128.Idx → EReal)
    = top (argA (first m) c) (argG (first m) c) (shift 4 (argX (first m) c)) (argW (first m) c) (argS (first m) c) (argB (first m) c) := by
  refine arr_of_8 c (dats m 0 c) _ fun t y => ?_
  rw [flushed8_A, out_top, blk_0, blk_1, blk_2, blk_3, blk_4, blk_5]
  generalize top (argA (first m) c) (argG (first m) c) (shift 4 (argX (first m) c)) (argW (first m) c) (argS (first m) c) (argB (first m) c) = T
  rfl

end Arrays

end Cert.Proof.Ref4

end
-- ==== Proof.Conv12.lean ====
/-
  The call that starts at scene 12: its arrays over the extended reals, by the first call's.
-/
module

public import proofs.«01_k».proof.Proof.Shift
public import proofs.«01_k».proof.Proof.Gen.Kernel12Ideal.Value

@[expose] public section

set_option maxRecDepth 16384

noncomputable section

namespace Cert.Proof.Conv12

open Cert.Kernel12Ideal Cert.Kernel12Ideal.Gen Cert.Kernel12Ideal.Value Idealize.ShloMosaic Idealize.ShloMosaic.TcCoe
  Idealize.ShloMosaic.ValueIdx Cert.Proof.Conv

variable (m : (ℓ : Loc nD τ sig) → Buf (Elt Ideal) ℓ) (c : Dev nD)

/-- The first call's memory. -/
abbrev first : (ℓ : Loc Cert.KernelIdeal.nD Cert.KernelIdeal.τ Cert.KernelIdeal.sig) → Buf (Elt Ideal) ℓ := m

theorem blk_0 (t : Fin cfg0.N) : iblk m c 0 t = Cert.KernelIdeal.Gen.iblk (moved (first m) c 12) c 0 t := (same_blk0 (first m) c 12 t).symm
theorem blk_1 (t : Fin cfg0.N) : iblk m c 1 t = Cert.KernelIdeal.Gen.iblk (moved (first m) c 12) c 1 t := (same_blk1 (first m) c 12 t).symm
theorem blk_3 (t : Fin cfg0.N) : iblk m c 3 t = Cert.KernelIdeal.Gen.iblk (moved (first m) c 12) c 3 t := (same_blk3 (first m) c 12 t).symm
theorem blk_4 (t : Fin cfg0.N) : iblk m c 4 t = Cert.KernelIdeal.Gen.iblk (moved (first m) c 12) c 4 t := (same_blk4 (first m) c 12 t).symm
theorem blk_5 (t : Fin cfg0.N) : iblk m c 5 t = Cert.KernelIdeal.Gen.iblk (moved (first m) c 12) c 5 t := (same_blk5 (first m) c 12 t).symm

theorem index_2 : ∀ t : Fin cfg0.N, win0_2.index t 0 = 12 + t.val / 40 ∧ win0_2.index t 1 = 0 ∧ win0_2.index t 2 = t.val % 40 :=
  (by decide +kernel : ∀ t : Fin grid0.N, win0_2.index t 0 = 12 + t.val / 40 ∧ win0_2.index t 1 = 0 ∧ win0_2.index t 2 = t.val % 40)
theorem index_6 : ∀ t : Fin cfg0.N, win0_6.index t 0 = 12 + t.val / 40 ∧ win0_6.index t 1 = 0 ∧ win0_6.index t 2 = t.val % 40 :=
  (by decide +kernel : ∀ t : Fin grid0.N, win0_6.index t 0 = 12 + t.val / 40 ∧ win0_6.index t 1 = 0 ∧ win0_6.index t 2 = t.val % 40)

theorem blk_2 (t : Fin cfg0.N) : iblk m c 2 t = Cert.KernelIdeal.Gen.iblk (moved (first m) c 12) c 2 t := by
  obtain ⟨h0, h1, h2⟩ := index_2 t
  have ht : t.val < 160 := t.isLt
  funext (j : S1x96x1024.Idx)
  obtain ⟨u, r, p, rfl⟩ : ∃ (u : Fin 1) (r : Fin 96) (p : Fin 1024), j = ix3 u r p := ⟨_, _, _, eq_ix3 j⟩
  obtain rfl : u = 0 := Subsingleton.elim _ _
  refine Eq.trans ?_ (Conv.blk_2 (moved (first m) c 12) c t r p).symm
  rw [show argX (moved (first m) c 12) c = shift 12 (argX (first m) c) from moved_arg2 ..]
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = (t.val / 40 + 12) % 16; rw [h0]; omega
  | ⟨1, _⟩ => show win0_2.index t 1 * 96 + 1 * r.val = r.val; rw [h1]; omega
  | ⟨2, _⟩ => show win0_2.index t 2 * 1024 + 1 * p.val = 1024 * (t.val % 40) + p.val; rw [h2]; omega

/-- The body at a later point is the first call's. -/
theorem outB_6 : @out0_B_6 Ideal _ = @Cert.KernelIdeal.Gen.out0_B_6 Ideal _ := rfl
theorem outB_7 : @out0_B_7 Ideal _ = @Cert.KernelIdeal.Gen.out0_B_7 Ideal _ := rfl

/-- What a point leaves is what the first call's leaves on the moved codes. -/
theorem left_eq (n : ℕ) : ∀ (hn : n < cfg0.N),
    outsAt0 m c n hn = Cert.KernelIdeal.Gen.outsAt0 (moved (first m) c 12) c n hn := by
  have hN : cfg0.N = 160 := N_0
  induction n with
  | zero =>
    intro hn
    have h := outsAt0_A m c ⟨0, hn⟩ (Nat.zero_mod _)
    have h' := Cert.KernelIdeal.Gen.outsAt0_A (moved (first m) c 12) c ⟨0, hn⟩ (Nat.zero_mod _)
    dsimp only at h h'
    rw [h, blk_0, blk_1, blk_2, blk_3, blk_4, blk_5]
    exact Eq.trans rfl h'.symm
  | succ n ih =>
    intro hn
    have h := outsAt0_B m c ⟨n + 1, hn⟩ (by show ¬ (n + 1) % 160 = 0; omega)
    have h' := Cert.KernelIdeal.Gen.outsAt0_B (moved (first m) c 12) c ⟨n + 1, hn⟩ (by show ¬ (n + 1) % 160 = 0; omega)
    have hp := ih (by omega)
    simp only [Nat.add_sub_cancel] at h h'
    refine h.trans (Eq.trans ?_ h'.symm)
    rw [blk_0, blk_1, blk_2, blk_3, blk_4, blk_5, hp, outB_6, outB_7, outB_y, outB_top, outB_y, outB_top]
    rfl

/-- The array the outputs are written into holds the argument's copy at entry. -/
theorem entry_y : (V m c main_v0_0 : S16x160x40960.Idx → EReal) = m ((c : Thread nD τ).loc main_arg6) := by
  unfold V
  simp [hostOps0, StableHlo.unary]

/-- The point that writes a position of the four scenes. -/
theorem mem_blk6 (t : Fin cfg0.N) (j : S16x160x40960.Idx) (hf : 12 ≤ (j 0).val) (ht : t.val = 40 * ((j 0).val - 12) + (j 2).val / 1024) :
    j ∈ ((cfg0.win 6).blk t).view.set := by
  obtain ⟨h0, h1, h2⟩ := index_6 t
  show j ∈ ((View.whole main_v0_0).slice (win0_6.rect t)).set
  rw [View.set_slice_whole, Rect.mem_set_unit]
  exact in_block 12 _ _ h0 h1 h2 j hf ht

/-- The outputs. -/
theorem arr_y : ((dats m 0 c).arrAt 6 cfg0.N : S16x160x40960.Idx → EReal) = outOf (first m) c 12 := by
  funext j
  have hG : ∀ t, (cfg0.win 6).flush t = true →
      (dats m 0 c).flushed 6 t = ((cfg0.win 6).blk t).view.read (Elt Ideal) (outOf (first m) c 12) := by
    intro t _
    obtain ⟨h0, h1, h2⟩ := index_6 t
    rw [flushed6, left_eq]
    funext (y : S1x160x1024.Idx)
    rw [View.read_apply]
    exact left_moved (first m) c 12 t (win0_6.index t) h0 h1 h2 y (((cfg0.win 6).rect t).emb y) fun _ => rfl
  rw [(dats m 0 c).arrAt_eq_piecewise 6 (outOf (first m) c 12) hG j]
  split
  · rfl
  · rename_i hno
    by_cases h4 : 12 ≤ (j 0).val ∧ (j 0).val < 12 + 4
    · exfalso
      have hj2 : (j 2).val < 40960 := (j 2).isLt
      have hN : cfg0.N = 160 := N_0
      exact hno ⟨⟨40 * ((j 0).val - 12) + (j 2).val / 1024, by omega⟩, flush0_6 _, mem_blk6 _ j h4.1 rfl⟩
    · refine Eq.trans ?_ (dif_neg h4).symm
      exact congrFun (entry_y m c) j

/-- The maxima are what the last point leaves. -/
theorem arr_top (n : ℕ) (hn : n < cfg0.N) (hlast : n = 159) : ((dats m 0 c).arrAt 7 cfg0.N : S8x128.Idx → EReal)
    = (Cert.KernelIdeal.Gen.outsAt0 (moved (first m) c 12) c n hn).2.1 := by
  have hG : ∀ t, (cfg0.win 7).flush t = true → (dats m 0 c).flushed 7 t
      = ((cfg0.win 7).blk t).view.read (Elt Ideal) (Cert.KernelIdeal.Gen.outsAt0 (moved (first m) c 12) c n hn).2.1 := by
    intro t hf
    have ht : t.val = n := by have := (flush0_7 t).1 hf; have : t.val < 160 := t.isLt; omega
    rw [flushed7, left_eq]
    funext (y : S8x128.Idx)
    rw [View.read_apply]
    show ((Cert.KernelIdeal.Gen.outsAt0 (moved (first m) c 12) c t.val t.isLt).2.1 y : EReal)
      = (Cert.KernelIdeal.Gen.outsAt0 (moved (first m) c 12) c n hn).2.1 (((Cert.KernelIdeal.cfg0.win 7).rect t).emb y)
    rw [emb7]
    simp only [ht]
  funext j
  exact (dats m 0 c).arrAt_apply_of_mem 7 _ hG cfg0.N ⟨n, hn⟩ j hn
    ((flush0_7 _).2 (by show n % 160 = 159; omega)) (mem_blk7 _ j)

end Cert.Proof.Conv12

end
-- ==== Proof.Ref12.lean ====
/-
  The reference of the call that starts at scene 12: its arrays over the extended reals.
-/
module

public import proofs.«01_k».proof.Proof.RefShift
public import proofs.«01_k».proof.Proof.Gen.Reference12Ideal.Value

@[expose] public section

set_option maxRecDepth 16384

noncomputable section

namespace Cert.Proof.Ref12

open Cert.Reference12Ideal Cert.Reference12Ideal.Gen Cert.Reference12Ideal.Value Idealize.ShloMosaic Idealize.ShloMosaic.TcCoe
  Idealize.ShloMosaic.ValueIdx Cert.Proof.Ref
open Cert.Proof.Conv (shift)

section Body

variable {F : FTy → Type} [FloatOps F]

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec F S1 .f32) (x1 : Vec F S4x26x24x40960 .i32) (x2 : Vec F S16x96x40960 .fp8e4m3) (x3 : Vec F S27x160x96 .fp8e4m3) (x4 : Vec F S27x160x1 .f32) (x5 : Vec F S160x1 .f32) (x6 : Vec F S16x160x40960 .f32)

/-- A scene's outputs, over what the body loads. -/
abbrev scene (i : Fin 4) : FVec F S160x40960 .f32 :=
  loadedAt 12 (by decide) arg0 harg0 arg1 harg1 arg2 harg2 arg3 harg3 arg4 harg4 arg5 harg5 x0 x1 x2 x3 x4 x5 i

theorem run_y :
    (kernelRun0_A c arg0 harg0 arg1 harg1 arg2 harg2 arg3 harg3 arg4 harg4 arg5 harg5 arg6 harg6 arg7 harg7 arg8 harg8 x0 x1 x2 x3 x4 x5 x6).1
      = [⟨rectScenes 0 12 (by decide), arg6.view.readAt (Elt F) (rectScenes 0 12 (by decide)).toLoadRect (harg6.unread x6)⟩] ++
        [⟨rectOutAt 12 (by decide) 3, shapeCast S1x160x40960 (scene arg0 harg0 arg1 harg1 arg2 harg2 arg3 harg3 arg4 harg4 arg5 harg5 x0 x1 x2 x3 x4 x5 3) shapeCasts_S160x40960_S1x160x40960⟩,
        ⟨rectOutAt 12 (by decide) 2, shapeCast S1x160x40960 (scene arg0 harg0 arg1 harg1 arg2 harg2 arg3 harg3 arg4 harg4 arg5 harg5 x0 x1 x2 x3 x4 x5 2) shapeCasts_S160x40960_S1x160x40960⟩,
        ⟨rectOutAt 12 (by decide) 1, shapeCast S1x160x40960 (scene arg0 harg0 arg1 harg1 arg2 harg2 arg3 harg3 arg4 harg4 arg5 harg5 x0 x1 x2 x3 x4 x5 1) shapeCasts_S160x40960_S1x160x40960⟩,
        ⟨rectOutAt 12 (by decide) 0, shapeCast S1x160x40960 (scene arg0 harg0 arg1 harg1 arg2 harg2 arg3 harg3 arg4 harg4 arg5 harg5 x0 x1 x2 x3 x4 x5 0) shapeCasts_S160x40960_S1x160x40960⟩] := rfl

theorem run_top :
    (kernelRun0_A c arg0 harg0 arg1 harg1 arg2 harg2 arg3 harg3 arg4 harg4 arg5 harg5 arg6 harg6 arg7 harg7 arg8 harg8 x0 x1 x2 x3 x4 x5 x6).2.1
      = [⟨rectTop, peakStep (peakStep (peakStep (peakStep (broadcast S8x128 (Scalar.ofBits .f32 0x00000000#32))
          (scene arg0 harg0 arg1 harg1 arg2 harg2 arg3 harg3 arg4 harg4 arg5 harg5 x0 x1 x2 x3 x4 x5 0))
          (scene arg0 harg0 arg1 harg1 arg2 harg2 arg3 harg3 arg4 harg4 arg5 harg5 x0 x1 x2 x3 x4 x5 1))
          (scene arg0 harg0 arg1 harg1 arg2 harg2 arg3 harg3 arg4 harg4 arg5 harg5 x0 x1 x2 x3 x4 x5 2))
          (scene arg0 harg0 arg1 harg1 arg2 harg2 arg3 harg3 arg4 harg4 arg5 harg5 x0 x1 x2 x3 x4 x5 3)⟩] := rfl

end Body

section Outputs

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec Ideal S1 .f32) (x1 : Vec Ideal S4x26x24x40960 .i32) (x2 : Vec Ideal S16x96x40960 .fp8e4m3) (x3 : Vec Ideal S27x160x96 .fp8e4m3) (x4 : Vec Ideal S27x160x1 .f32) (x5 : Vec Ideal S160x1 .f32) (x6 : Vec Ideal S16x160x40960 .f32)

/-- What the body leaves in the array of outputs. -/
theorem out_y (j : S16x160x40960.Idx) :
    (out0_A_7 c arg0 harg0 arg1 harg1 arg2 harg2 arg3 harg3 arg4 harg4 arg5 harg5 arg6 harg6 arg7 harg7 arg8 harg8 x0 x1 x2 x3 x4 x5 x6 j : EReal)
      = outYAt 12 x0 x1 x2 x3 x4 x5 x6 j := by
  unfold out0_A_7
  rw [View.read_writes_junk_eq_canon, run_y]
  simp only [scene, loadedAt_eq, View.readAt_eq_ld, harg6.read_unread]
  refine canon_at 12 (by decide) x0 x1 x2 x3 x4 x5 x6 _ (fun P hP y => ?_) (fun i hi => ?_) j
  · simp only [List.mem_cons, List.not_mem_nil, or_false] at hP
    subst hP
    exact piece_scenes 12 x0 x1 x2 x3 x4 x5 x6 0 12 (by decide) (.inl (by decide)) y
  · have hi0 : (i 0).val < 16 := (i 0).isLt
    exact ⟨_, .head _, mem_scenes i 0 12 (by decide) (by omega) (by omega)⟩

/-- What the body leaves in the array of maxima. -/
theorem out_top :
    out0_A_8 c arg0 harg0 arg1 harg1 arg2 harg2 arg3 harg3 arg4 harg4 arg5 harg5 arg6 harg6 arg7 harg7 arg8 harg8 x0 x1 x2 x3 x4 x5 x6
      = top x0 x1 (shift 12 x2) x3 x4 x5 := by
  unfold out0_A_8
  rw [View.read_writes_junk_eq_canon, run_top, View.canon_unit_zero (by funext a; fin_cases a <;> rfl)]
  simp only [scene, loadedAt_eq]
  rfl

end Outputs

section Arrays

variable (m : (ℓ : Loc nD τ sig) → Buf (Elt Ideal) ℓ) (c : Dev nD)

/-- The first reference's memory. -/
abbrev first : (ℓ : Loc Cert.ReferenceIdeal.nD Cert.ReferenceIdeal.τ Cert.ReferenceIdeal.sig) → Buf (Elt Ideal) ℓ := m

theorem blk_0 (t : Fin cfg0.N) : (iblk m c 0 t : S1.Idx → EReal) = argA (first m) c := Ref.blk_0 (first m) c t
theorem blk_1 (t : Fin cfg0.N) : (iblk m c 1 t : S4x26x24x40960.Idx → BitVec 32) = argG (first m) c := Ref.blk_1 (first m) c t
theorem blk_2 (t : Fin cfg0.N) : (iblk m c 2 t : S16x96x40960.Idx → EReal) = argX (first m) c := Ref.blk_2 (first m) c t
theorem blk_3 (t : Fin cfg0.N) : (iblk m c 3 t : S27x160x96.Idx → EReal) = argW (first m) c := Ref.blk_3 (first m) c t
theorem blk_4 (t : Fin cfg0.N) : (iblk m c 4 t : S27x160x1.Idx → EReal) = argS (first m) c := Ref.blk_4 (first m) c t
theorem blk_5 (t : Fin cfg0.N) : (iblk m c 5 t : S160x1.Idx → EReal) = argB (first m) c := Ref.blk_5 (first m) c t
theorem blk_6 (t : Fin cfg0.N) : (iblk m c 6 t : S16x160x40960.Idx → EReal) = argY (first m) c := Ref.blk_6 (first m) c t

/-- The outputs after the run. -/
theorem arr_y : ((dats m 0 c).arrAt 7 cfg0.N : S16x160x40960.Idx → EReal)
    = outYAt 12 (argA (first m) c) (argG (first m) c) (argX (first m) c) (argW (first m) c) (argS (first m) c) (argB (first m) c) (argY (first m) c) := by
  refine arr_of_7 c (dats m 0 c) _ fun t y => ?_
  rw [flushed7_A]
  refine (out_y _ _ _ _ _ _ _ _ _ _ _ _ _ _ _ _ _ _ _ _ _ _ _ _ _ _ y).trans ?_
  rw [blk_0, blk_1, blk_2, blk_3, blk_4, blk_5, blk_6]

/-- The maxima after the run. -/
theorem arr_top : ((dats m 0 c).arrAt 8 cfg0.N : S8x128.Idx → EReal)
    = top (argA (first m) c) (argG (first m) c) (shift 12 (argX (first m) c)) (argW (first m) c) (argS (first m) c) (argB (first m) c) := by
  refine arr_of_8 c (dats m 0 c) _ fun t y => ?_
  rw [flushed8_A, out_top, blk_0, blk_1, blk_2, blk_3, blk_4, blk_5]
  generalize top (argA (first m) c) (argG (first m) c) (shift 12 (argX (first m) c)) (argW (first m) c) (argS (first m) c) (argB (first m) c) = T
  rfl

end Arrays

end Cert.Proof.Ref12

end
-- ==== Proof.Conv8.lean ====
/-
  The call that starts at scene 8: its arrays over the extended reals, by the first call's.
-/
module

public import proofs.«01_k».proof.Proof.Shift
public import proofs.«01_k».proof.Proof.Gen.Kernel8Ideal.Value

@[expose] public section

set_option maxRecDepth 16384

noncomputable section

namespace Cert.Proof.Conv8

open Cert.Kernel8Ideal Cert.Kernel8Ideal.Gen Cert.Kernel8Ideal.Value Idealize.ShloMosaic Idealize.ShloMosaic.TcCoe
  Idealize.ShloMosaic.ValueIdx Cert.Proof.Conv

variable (m : (ℓ : Loc nD τ sig) → Buf (Elt Ideal) ℓ) (c : Dev nD)

/-- The first call's memory. -/
abbrev first : (ℓ : Loc Cert.KernelIdeal.nD Cert.KernelIdeal.τ Cert.KernelIdeal.sig) → Buf (Elt Ideal) ℓ := m

theorem blk_0 (t : Fin cfg0.N) : iblk m c 0 t = Cert.KernelIdeal.Gen.iblk (moved (first m) c 8) c 0 t := (same_blk0 (first m) c 8 t).symm
theorem blk_1 (t : Fin cfg0.N) : iblk m c 1 t = Cert.KernelIdeal.Gen.iblk (moved (first m) c 8) c 1 t := (same_blk1 (first m) c 8 t).symm
theorem blk_3 (t : Fin cfg0.N) : iblk m c 3 t = Cert.KernelIdeal.Gen.iblk (moved (first m) c 8) c 3 t := (same_blk3 (first m) c 8 t).symm
theorem blk_4 (t : Fin cfg0.N) : iblk m c 4 t = Cert.KernelIdeal.Gen.iblk (moved (first m) c 8) c 4 t := (same_blk4 (first m) c 8 t).symm
theorem blk_5 (t : Fin cfg0.N) : iblk m c 5 t = Cert.KernelIdeal.Gen.iblk (moved (first m) c 8) c 5 t := (same_blk5 (first m) c 8 t).symm

theorem index_2 : ∀ t : Fin cfg0.N, win0_2.index t 0 = 8 + t.val / 40 ∧ win0_2.index t 1 = 0 ∧ win0_2.index t 2 = t.val % 40 :=
  (by decide +kernel : ∀ t : Fin grid0.N, win0_2.index t 0 = 8 + t.val / 40 ∧ win0_2.index t 1 = 0 ∧ win0_2.index t 2 = t.val % 40)
theorem index_6 : ∀ t : Fin cfg0.N, win0_6.index t 0 = 8 + t.val / 40 ∧ win0_6.index t 1 = 0 ∧ win0_6.index t 2 = t.val % 40 :=
  (by decide +kernel : ∀ t : Fin grid0.N, win0_6.index t 0 = 8 + t.val / 40 ∧ win0_6.index t 1 = 0 ∧ win0_6.index t 2 = t.val % 40)

theorem blk_2 (t : Fin cfg0.N) : iblk m c 2 t = Cert.KernelIdeal.Gen.iblk (moved (first m) c 8) c 2 t := by
  obtain ⟨h0, h1, h2⟩ := index_2 t
  have ht : t.val < 160 := t.isLt
  funext (j : S1x96x1024.Idx)
  obtain ⟨u, r, p, rfl⟩ : ∃ (u : Fin 1) (r : Fin 96) (p : Fin 1024), j = ix3 u r p := ⟨_, _, _, eq_ix3 j⟩
  obtain rfl : u = 0 := Subsingleton.elim _ _
  refine Eq.trans ?_ (Conv.blk_2 (moved (first m) c 8) c t r p).symm
  rw [show argX (moved (first m) c 8) c = shift 8 (argX (first m) c) from moved_arg2 ..]
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = (t.val / 40 + 8) % 16; rw [h0]; omega
  | ⟨1, _⟩ => show win0_2.index t 1 * 96 + 1 * r.val = r.val; rw [h1]; omega
  | ⟨2, _⟩ => show win0_2.index t 2 * 1024 + 1 * p.val = 1024 * (t.val % 40) + p.val; rw [h2]; omega

/-- The body at a later point is the first call's. -/
theorem outB_6 : @out0_B_6 Ideal _ = @Cert.KernelIdeal.Gen.out0_B_6 Ideal _ := rfl
theorem outB_7 : @out0_B_7 Ideal _ = @Cert.KernelIdeal.Gen.out0_B_7 Ideal _ := rfl

/-- What a point leaves is what the first call's leaves on the moved codes. -/
theorem left_eq (n : ℕ) : ∀ (hn : n < cfg0.N),
    outsAt0 m c n hn = Cert.KernelIdeal.Gen.outsAt0 (moved (first m) c 8) c n hn := by
  have hN : cfg0.N = 160 := N_0
  induction n with
  | zero =>
    intro hn
    have h := outsAt0_A m c ⟨0, hn⟩ (Nat.zero_mod _)
    have h' := Cert.KernelIdeal.Gen.outsAt0_A (moved (first m) c 8) c ⟨0, hn⟩ (Nat.zero_mod _)
    dsimp only at h h'
    rw [h, blk_0, blk_1, blk_2, blk_3, blk_4, blk_5]
    exact Eq.trans rfl h'.symm
  | succ n ih =>
    intro hn
    have h := outsAt0_B m c ⟨n + 1, hn⟩ (by show ¬ (n + 1) % 160 = 0; omega)
    have h' := Cert.KernelIdeal.Gen.outsAt0_B (moved (first m) c 8) c ⟨n + 1, hn⟩ (by show ¬ (n + 1) % 160 = 0; omega)
    have hp := ih (by omega)
    simp only [Nat.add_sub_cancel] at h h'
    refine h.trans (Eq.trans ?_ h'.symm)
    rw [blk_0, blk_1, blk_2, blk_3, blk_4, blk_5, hp, outB_6, outB_7, outB_y, outB_top, outB_y, outB_top]
    rfl

/-- The array the outputs are written into holds the argument's copy at entry. -/
theorem entry_y : (V m c main_v0_0 : S16x160x40960.Idx → EReal) = m ((c : Thread nD τ).loc main_arg6) := by
  unfold V
  simp [hostOps0, StableHlo.unary]

/-- The point that writes a position of the four scenes. -/
theorem mem_blk6 (t : Fin cfg0.N) (j : S16x160x40960.Idx) (hf : 8 ≤ (j 0).val) (ht : t.val = 40 * ((j 0).val - 8) + (j 2).val / 1024) :
    j ∈ ((cfg0.win 6).blk t).view.set := by
  obtain ⟨h0, h1, h2⟩ := index_6 t
  show j ∈ ((View.whole main_v0_0).slice (win0_6.rect t)).set
  rw [View.set_slice_whole, Rect.mem_set_unit]
  exact in_block 8 _ _ h0 h1 h2 j hf ht

/-- The outputs. -/
theorem arr_y : ((dats m 0 c).arrAt 6 cfg0.N : S16x160x40960.Idx → EReal) = outOf (first m) c 8 := by
  funext j
  have hG : ∀ t, (cfg0.win 6).flush t = true →
      (dats m 0 c).flushed 6 t = ((cfg0.win 6).blk t).view.read (Elt Ideal) (outOf (first m) c 8) := by
    intro t _
    obtain ⟨h0, h1, h2⟩ := index_6 t
    rw [flushed6, left_eq]
    funext (y : S1x160x1024.Idx)
    rw [View.read_apply]
    exact left_moved (first m) c 8 t (win0_6.index t) h0 h1 h2 y (((cfg0.win 6).rect t).emb y) fun _ => rfl
  rw [(dats m 0 c).arrAt_eq_piecewise 6 (outOf (first m) c 8) hG j]
  split
  · rfl
  · rename_i hno
    by_cases h4 : 8 ≤ (j 0).val ∧ (j 0).val < 8 + 4
    · exfalso
      have hj2 : (j 2).val < 40960 := (j 2).isLt
      have hN : cfg0.N = 160 := N_0
      exact hno ⟨⟨40 * ((j 0).val - 8) + (j 2).val / 1024, by omega⟩, flush0_6 _, mem_blk6 _ j h4.1 rfl⟩
    · refine Eq.trans ?_ (dif_neg h4).symm
      exact congrFun (entry_y m c) j

/-- The maxima are what the last point leaves. -/
theorem arr_top (n : ℕ) (hn : n < cfg0.N) (hlast : n = 159) : ((dats m 0 c).arrAt 7 cfg0.N : S8x128.Idx → EReal)
    = (Cert.KernelIdeal.Gen.outsAt0 (moved (first m) c 8) c n hn).2.1 := by
  have hG : ∀ t, (cfg0.win 7).flush t = true → (dats m 0 c).flushed 7 t
      = ((cfg0.win 7).blk t).view.read (Elt Ideal) (Cert.KernelIdeal.Gen.outsAt0 (moved (first m) c 8) c n hn).2.1 := by
    intro t hf
    have ht : t.val = n := by have := (flush0_7 t).1 hf; have : t.val < 160 := t.isLt; omega
    rw [flushed7, left_eq]
    funext (y : S8x128.Idx)
    rw [View.read_apply]
    show ((Cert.KernelIdeal.Gen.outsAt0 (moved (first m) c 8) c t.val t.isLt).2.1 y : EReal)
      = (Cert.KernelIdeal.Gen.outsAt0 (moved (first m) c 8) c n hn).2.1 (((Cert.KernelIdeal.cfg0.win 7).rect t).emb y)
    rw [emb7]
    simp only [ht]
  funext j
  exact (dats m 0 c).arrAt_apply_of_mem 7 _ hG cfg0.N ⟨n, hn⟩ j hn
    ((flush0_7 _).2 (by show n % 160 = 159; omega)) (mem_blk7 _ j)

end Cert.Proof.Conv8

end
-- ==== Proof.Ref8.lean ====
/-
  The reference of the call that starts at scene 8: its arrays over the extended reals.
-/
module

public import proofs.«01_k».proof.Proof.RefShift
public import proofs.«01_k».proof.Proof.Gen.Reference8Ideal.Value

@[expose] public section

set_option maxRecDepth 16384

noncomputable section

namespace Cert.Proof.Ref8

open Cert.Reference8Ideal Cert.Reference8Ideal.Gen Cert.Reference8Ideal.Value Idealize.ShloMosaic Idealize.ShloMosaic.TcCoe
  Idealize.ShloMosaic.ValueIdx Cert.Proof.Ref
open Cert.Proof.Conv (shift)

section Body

variable {F : FTy → Type} [FloatOps F]

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec F S1 .f32) (x1 : Vec F S4x26x24x40960 .i32) (x2 : Vec F S16x96x40960 .fp8e4m3) (x3 : Vec F S27x160x96 .fp8e4m3) (x4 : Vec F S27x160x1 .f32) (x5 : Vec F S160x1 .f32) (x6 : Vec F S16x160x40960 .f32)

/-- A scene's outputs, over what the body loads. -/
abbrev scene (i : Fin 4) : FVec F S160x40960 .f32 :=
  loadedAt 8 (by decide) arg0 harg0 arg1 harg1 arg2 harg2 arg3 harg3 arg4 harg4 arg5 harg5 x0 x1 x2 x3 x4 x5 i

theorem run_y :
    (kernelRun0_A c arg0 harg0 arg1 harg1 arg2 harg2 arg3 harg3 arg4 harg4 arg5 harg5 arg6 harg6 arg7 harg7 arg8 harg8 x0 x1 x2 x3 x4 x5 x6).1
      = [⟨rectScenes 12 4 (by decide), arg6.view.readAt (Elt F) (rectScenes 12 4 (by decide)).toLoadRect (harg6.unread x6)⟩,
        ⟨rectScenes 0 8 (by decide), arg6.view.readAt (Elt F) (rectScenes 0 8 (by decide)).toLoadRect (harg6.unread x6)⟩] ++
        [⟨rectOutAt 8 (by decide) 3, shapeCast S1x160x40960 (scene arg0 harg0 arg1 harg1 arg2 harg2 arg3 harg3 arg4 harg4 arg5 harg5 x0 x1 x2 x3 x4 x5 3) shapeCasts_S160x40960_S1x160x40960⟩,
        ⟨rectOutAt 8 (by decide) 2, shapeCast S1x160x40960 (scene arg0 harg0 arg1 harg1 arg2 harg2 arg3 harg3 arg4 harg4 arg5 harg5 x0 x1 x2 x3 x4 x5 2) shapeCasts_S160x40960_S1x160x40960⟩,
        ⟨rectOutAt 8 (by decide) 1, shapeCast S1x160x40960 (scene arg0 harg0 arg1 harg1 arg2 harg2 arg3 harg3 arg4 harg4 arg5 harg5 x0 x1 x2 x3 x4 x5 1) shapeCasts_S160x40960_S1x160x40960⟩,
        ⟨rectOutAt 8 (by decide) 0, shapeCast S1x160x40960 (scene arg0 harg0 arg1 harg1 arg2 harg2 arg3 harg3 arg4 harg4 arg5 harg5 x0 x1 x2 x3 x4 x5 0) shapeCasts_S160x40960_S1x160x40960⟩] := rfl

theorem run_top :
    (kernelRun0_A c arg0 harg0 arg1 harg1 arg2 harg2 arg3 harg3 arg4 harg4 arg5 harg5 arg6 harg6 arg7 harg7 arg8 harg8 x0 x1 x2 x3 x4 x5 x6).2.1
      = [⟨rectTop, peakStep (peakStep (peakStep (peakStep (broadcast S8x128 (Scalar.ofBits .f32 0x00000000#32))
          (scene arg0 harg0 arg1 harg1 arg2 harg2 arg3 harg3 arg4 harg4 arg5 harg5 x0 x1 x2 x3 x4 x5 0))
          (scene arg0 harg0 arg1 harg1 arg2 harg2 arg3 harg3 arg4 harg4 arg5 harg5 x0 x1 x2 x3 x4 x5 1))
          (scene arg0 harg0 arg1 harg1 arg2 harg2 arg3 harg3 arg4 harg4 arg5 harg5 x0 x1 x2 x3 x4 x5 2))
          (scene arg0 harg0 arg1 harg1 arg2 harg2 arg3 harg3 arg4 harg4 arg5 harg5 x0 x1 x2 x3 x4 x5 3)⟩] := rfl

end Body

section Outputs

variable (c : Dev nD) (arg0 : Memref sig .tc .smem S1 .f32) (harg0 : arg0.IsWhole) (arg1 : Memref sig .tc .vmem S4x26x24x40960 .i32) (harg1 : arg1.IsWhole) (arg2 : Memref sig .tc .vmem S16x96x40960 .fp8e4m3) (harg2 : arg2.IsWhole) (arg3 : Memref sig .tc .vmem S27x160x96 .fp8e4m3) (harg3 : arg3.IsWhole) (arg4 : Memref sig .tc .vmem S27x160x1 .f32) (harg4 : arg4.IsWhole) (arg5 : Memref sig .tc .vmem S160x1 .f32) (harg5 : arg5.IsWhole) (arg6 : Memref sig .tc .vmem S16x160x40960 .f32) (harg6 : arg6.IsWhole) (arg7 : Memref sig .tc .vmem S16x160x40960 .f32) (harg7 : arg7.IsWhole) (arg8 : Memref sig .tc .vmem S8x128 .f32) (harg8 : arg8.IsWhole)
  (x0 : Vec Ideal S1 .f32) (x1 : Vec Ideal S4x26x24x40960 .i32) (x2 : Vec Ideal S16x96x40960 .fp8e4m3) (x3 : Vec Ideal S27x160x96 .fp8e4m3) (x4 : Vec Ideal S27x160x1 .f32) (x5 : Vec Ideal S160x1 .f32) (x6 : Vec Ideal S16x160x40960 .f32)

/-- What the body leaves in the array of outputs. -/
theorem out_y (j : S16x160x40960.Idx) :
    (out0_A_7 c arg0 harg0 arg1 harg1 arg2 harg2 arg3 harg3 arg4 harg4 arg5 harg5 arg6 harg6 arg7 harg7 arg8 harg8 x0 x1 x2 x3 x4 x5 x6 j : EReal)
      = outYAt 8 x0 x1 x2 x3 x4 x5 x6 j := by
  unfold out0_A_7
  rw [View.read_writes_junk_eq_canon, run_y]
  simp only [scene, loadedAt_eq, View.readAt_eq_ld, harg6.read_unread]
  refine canon_at 8 (by decide) x0 x1 x2 x3 x4 x5 x6 _ (fun P hP y => ?_) (fun i hi => ?_) j
  · simp only [List.mem_cons, List.not_mem_nil, or_false] at hP
    rcases hP with rfl | rfl
    · exact piece_scenes 8 x0 x1 x2 x3 x4 x5 x6 12 4 (by decide) (.inr (by decide)) y
    · exact piece_scenes 8 x0 x1 x2 x3 x4 x5 x6 0 8 (by decide) (.inl (by decide)) y
  · have hi0 : (i 0).val < 16 := (i 0).isLt
    by_cases h : (i 0).val < 8
    · exact ⟨_, .tail _ (.head _), mem_scenes i 0 8 (by decide) (by omega) (by omega)⟩
    · exact ⟨_, .head _, mem_scenes i 12 4 (by decide) (by omega) (by omega)⟩

/-- What the body leaves in the array of maxima. -/
theorem out_top :
    out0_A_8 c arg0 harg0 arg1 harg1 arg2 harg2 arg3 harg3 arg4 harg4 arg5 harg5 arg6 harg6 arg7 harg7 arg8 harg8 x0 x1 x2 x3 x4 x5 x6
      = top x0 x1 (shift 8 x2) x3 x4 x5 := by
  unfold out0_A_8
  rw [View.read_writes_junk_eq_canon, run_top, View.canon_unit_zero (by funext a; fin_cases a <;> rfl)]
  simp only [scene, loadedAt_eq]
  rfl

end Outputs

section Arrays

variable (m : (ℓ : Loc nD τ sig) → Buf (Elt Ideal) ℓ) (c : Dev nD)

/-- The first reference's memory. -/
abbrev first : (ℓ : Loc Cert.ReferenceIdeal.nD Cert.ReferenceIdeal.τ Cert.ReferenceIdeal.sig) → Buf (Elt Ideal) ℓ := m

theorem blk_0 (t : Fin cfg0.N) : (iblk m c 0 t : S1.Idx → EReal) = argA (first m) c := Ref.blk_0 (first m) c t
theorem blk_1 (t : Fin cfg0.N) : (iblk m c 1 t : S4x26x24x40960.Idx → BitVec 32) = argG (first m) c := Ref.blk_1 (first m) c t
theorem blk_2 (t : Fin cfg0.N) : (iblk m c 2 t : S16x96x40960.Idx → EReal) = argX (first m) c := Ref.blk_2 (first m) c t
theorem blk_3 (t : Fin cfg0.N) : (iblk m c 3 t : S27x160x96.Idx → EReal) = argW (first m) c := Ref.blk_3 (first m) c t
theorem blk_4 (t : Fin cfg0.N) : (iblk m c 4 t : S27x160x1.Idx → EReal) = argS (first m) c := Ref.blk_4 (first m) c t
theorem blk_5 (t : Fin cfg0.N) : (iblk m c 5 t : S160x1.Idx → EReal) = argB (first m) c := Ref.blk_5 (first m) c t
theorem blk_6 (t : Fin cfg0.N) : (iblk m c 6 t : S16x160x40960.Idx → EReal) = argY (first m) c := Ref.blk_6 (first m) c t

/-- The outputs after the run. -/
theorem arr_y : ((dats m 0 c).arrAt 7 cfg0.N : S16x160x40960.Idx → EReal)
    = outYAt 8 (argA (first m) c) (argG (first m) c) (argX (first m) c) (argW (first m) c) (argS (first m) c) (argB (first m) c) (argY (first m) c) := by
  refine arr_of_7 c (dats m 0 c) _ fun t y => ?_
  rw [flushed7_A]
  refine (out_y _ _ _ _ _ _ _ _ _ _ _ _ _ _ _ _ _ _ _ _ _ _ _ _ _ _ y).trans ?_
  rw [blk_0, blk_1, blk_2, blk_3, blk_4, blk_5, blk_6]

/-- The maxima after the run. -/
theorem arr_top : ((dats m 0 c).arrAt 8 cfg0.N : S8x128.Idx → EReal)
    = top (argA (first m) c) (argG (first m) c) (shift 8 (argX (first m) c)) (argW (first m) c) (argS (first m) c) (argB (first m) c) := by
  refine arr_of_8 c (dats m 0 c) _ fun t y => ?_
  rw [flushed8_A, out_top, blk_0, blk_1, blk_2, blk_3, blk_4, blk_5]
  generalize top (argA (first m) c) (argG (first m) c) (shift 8 (argX (first m) c)) (argW (first m) c) (argS (first m) c) (argB (first m) c) = T
  rfl

end Arrays

end Cert.Proof.Ref8

end
-- ==== Proof.Algebra.lean ====
/-
  The arrays of each call and of its reference are the same where their arguments are.
-/
module

public import proofs.«01_k».proof.Defs
public import proofs.«01_k».proof.Proof.Arrays
public import proofs.«01_k».proof.Proof.RefShift
public import proofs.«01_k».proof.Proof.Conv4
public import proofs.«01_k».proof.Proof.Ref4
public import proofs.«01_k».proof.Proof.Conv12
public import proofs.«01_k».proof.Proof.Ref12
public import proofs.«01_k».proof.Proof.Conv8
public import proofs.«01_k».proof.Proof.Ref8

@[expose] public section

set_option maxRecDepth 16384

noncomputable section

namespace Cert.Proof

open Idealize.ShloMosaic Idealize.SL.Sem Idealize.ShloMosaic.ValueIdx

/-- There is a last grid point. -/
theorem exists_last : ∃ n : ℕ, n < Cert.KernelIdeal.cfg0.N ∧ n = 159 := by
  obtain ⟨n, hlast⟩ : ∃ n : ℕ, n = 159 := ⟨_, rfl⟩
  have hN : Cert.KernelIdeal.cfg0.N = 160 := Cert.KernelIdeal.Gen.N_0
  exact ⟨n, by omega, hlast⟩

section Arrays

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hA : Ref.argA m' c = Conv.argA m c) (hG : Ref.argG m' c = Conv.argG m c) (hX : Ref.argX m' c = Conv.argX m c)
  (hW : Ref.argW m' c = Conv.argW m c) (hS : Ref.argS m' c = Conv.argS m c) (hB : Ref.argB m' c = Conv.argB m c)
  (hY : Ref.argY m' c = Conv.argY m c)

include hA hG hX hW hS hB hY in
/-- The outputs agree. -/
theorem same_y : ((Cert.ReferenceIdeal.Gen.dats m' 0 c).arrAt 7 Cert.ReferenceIdeal.cfg0.N : Cert.KernelIdeal.S16x160x40960.Idx → EReal)
    = (Cert.KernelIdeal.Gen.dats m 0 c).arrAt 6 Cert.KernelIdeal.cfg0.N := by
  refine (Ref.arr_y m' c).trans (Eq.trans ?_ (Conv.arr_y m c).symm)
  rw [hA, hG, hX, hW, hS, hB, hY]
  rfl

include hA hG hX hW hS hB in
/-- The maxima agree: the same numbers bound them. -/
theorem same_top : ((Cert.ReferenceIdeal.Gen.dats m' 0 c).arrAt 8 Cert.ReferenceIdeal.cfg0.N : Cert.KernelIdeal.S8x128.Idx → EReal)
    = (Cert.KernelIdeal.Gen.dats m 0 c).arrAt 7 Cert.KernelIdeal.cfg0.N := by
  obtain ⟨n, hn, hlast⟩ := exists_last
  refine (Ref.arr_top m' c).trans (Eq.trans ?_ (Conv.arr_top m c n hn hlast).symm)
  funext j
  obtain ⟨r, l, rfl⟩ : ∃ (r : Fin 8) (l : Fin 128), j = ix2 r l := ⟨_, _, eq_ix2 j⟩
  refine eq_of_forall_ge_iff fun z => (Ref.top_le _ _ _ _ _ _ r l z).trans (Iff.trans ?_ (Conv.left_top_last m c n hn hlast r l z).symm)
  rw [hA, hG, hX, hW, hS, hB]

include hA hG hX hW hS hB hY in
/-- The outputs of the call and of the reference that start at scene `f` agree. -/
theorem same_y_at (f : ℕ) : Ref.outYAt f (Ref.argA m' c) (Ref.argG m' c) (Ref.argX m' c) (Ref.argW m' c) (Ref.argS m' c) (Ref.argB m' c)
    (Ref.argY m' c) = Conv.outOf m c f := by
  rw [hA, hG, hX, hW, hS, hB, hY]

include hA hG hX hW hS hB in
/-- The maxima of the call and of the reference that start at scene `f` agree. -/
theorem same_top_at (f n : ℕ) (hn : n < Cert.KernelIdeal.cfg0.N) (hlast : n = 159) :
    (Ref.top (Ref.argA m' c) (Ref.argG m' c) (Conv.shift f (Ref.argX m' c)) (Ref.argW m' c) (Ref.argS m' c) (Ref.argB m' c)
      : Cert.KernelIdeal.S8x128.Idx → EReal) = (Cert.KernelIdeal.Gen.outsAt0 (Conv.moved m c f) c n hn).2.1 := by
  funext j
  obtain ⟨r, l, rfl⟩ : ∃ (r : Fin 8) (l : Fin 128), j = ix2 r l := ⟨_, _, eq_ix2 j⟩
  refine eq_of_forall_ge_iff fun z => (Ref.top_le _ _ _ _ _ _ r l z).trans (Iff.trans ?_ (Conv.left_top_moved m c f n hn hlast r l z).symm)
  rw [hA, hG, hX, hW, hS, hB]

end Arrays

/-- The two programs compute the same arrays. -/
theorem algebraic : Cert.algebraic_KernelIdeal_ReferenceIdeal := by
  intro m g m' g' _ hargs
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine θ_run_mono (Cert.ReferenceIdeal.Value.run_blocks m' g') fun r hr c => ?_
  obtain ⟨h0, h1, hk⟩ := hr c
  obtain ⟨a0, a1, a2, a3, a4, a5, a6⟩ := hargs c
  exact ⟨h0.trans (same_y m m' c a0 a1 a2 a3 a4 a5 a6), h1.trans (same_top m m' c a0 a1 a2 a3 a4 a5), hk⟩

/-- The call that starts at scene 4 and its reference compute the same arrays. -/
theorem algebraic_4 : Cert.algebraic_Kernel4Ideal_Reference4Ideal := by
  intro m g m' g' _ hargs
  refine ⟨fun c => (Cert.Kernel4Ideal.Gen.dats m 0 c).arrAt 6 Cert.Kernel4Ideal.cfg0.N,
    fun c => (Cert.Kernel4Ideal.Gen.dats m 0 c).arrAt 7 Cert.Kernel4Ideal.cfg0.N, Cert.Kernel4Ideal.Value.run_blocks m g, ?_⟩
  refine θ_run_mono (Cert.Reference4Ideal.Value.run_blocks m' g') fun r hr c => ?_
  obtain ⟨h0, h1, hk⟩ := hr c
  obtain ⟨a0, a1, a2, a3, a4, a5, a6⟩ := hargs c
  obtain ⟨n, hn, hlast⟩ := exists_last
  exact ⟨h0.trans ((Ref4.arr_y m' c).trans ((same_y_at m m' c a0 a1 a2 a3 a4 a5 a6 4).trans (Conv4.arr_y m c).symm)),
    h1.trans ((Ref4.arr_top m' c).trans ((same_top_at m m' c a0 a1 a2 a3 a4 a5 4 n hn hlast).trans (Conv4.arr_top m c n hn hlast).symm)), hk⟩

/-- The call that starts at scene 8 and its reference compute the same arrays. -/
theorem algebraic_8 : Cert.algebraic_Kernel8Ideal_Reference8Ideal := by
  intro m g m' g' _ hargs
  refine ⟨fun c => (Cert.Kernel8Ideal.Gen.dats m 0 c).arrAt 6 Cert.Kernel8Ideal.cfg0.N,
    fun c => (Cert.Kernel8Ideal.Gen.dats m 0 c).arrAt 7 Cert.Kernel8Ideal.cfg0.N, Cert.Kernel8Ideal.Value.run_blocks m g, ?_⟩
  refine θ_run_mono (Cert.Reference8Ideal.Value.run_blocks m' g') fun r hr c => ?_
  obtain ⟨h0, h1, hk⟩ := hr c
  obtain ⟨a0, a1, a2, a3, a4, a5, a6⟩ := hargs c
  obtain ⟨n, hn, hlast⟩ := exists_last
  exact ⟨h0.trans ((Ref8.arr_y m' c).trans ((same_y_at m m' c a0 a1 a2 a3 a4 a5 a6 8).trans (Conv8.arr_y m c).symm)),
    h1.trans ((Ref8.arr_top m' c).trans ((same_top_at m m' c a0 a1 a2 a3 a4 a5 8 n hn hlast).trans (Conv8.arr_top m c n hn hlast).symm)), hk⟩

/-- The call that starts at scene 12 and its reference compute the same arrays. -/
theorem algebraic_12 : Cert.algebraic_Kernel12Ideal_Reference12Ideal := by
  intro m g m' g' _ hargs
  refine ⟨fun c => (Cert.Kernel12Ideal.Gen.dats m 0 c).arrAt 6 Cert.Kernel12Ideal.cfg0.N,
    fun c => (Cert.Kernel12Ideal.Gen.dats m 0 c).arrAt 7 Cert.Kernel12Ideal.cfg0.N, Cert.Kernel12Ideal.Value.run_blocks m g, ?_⟩
  refine θ_run_mono (Cert.Reference12Ideal.Value.run_blocks m' g') fun r hr c => ?_
  obtain ⟨h0, h1, hk⟩ := hr c
  obtain ⟨a0, a1, a2, a3, a4, a5, a6⟩ := hargs c
  obtain ⟨n, hn, hlast⟩ := exists_last
  exact ⟨h0.trans ((Ref12.arr_y m' c).trans ((same_y_at m m' c a0 a1 a2 a3 a4 a5 a6 12).trans (Conv12.arr_y m c).symm)),
    h1.trans ((Ref12.arr_top m' c).trans ((same_top_at m m' c a0 a1 a2 a3 a4 a5 12 n hn hlast).trans (Conv12.arr_top m c n hn hlast).symm)), hk⟩

end Cert.Proof

end
-- ==== Proof.Scale.lean ====
/-
  A power of two from the exponent field of a word: the two ways the programs write it, and that they are one.
-/
module

public import proofs.«01_k».proof.Proof.Gen.Quantise
public import proofs.«01_k».proof.Proof.Gen.QuantiseReference
public import Idealize.ShloMosaic.PureOps.BitExact

@[expose] public section

namespace Cert.Proof.Quant

open Idealize.ShloMosaic

/-- The exponent field of a word. -/
def field (w : BitVec 32) : BitVec 32 := Scalar.andi (Scalar.shrui w 23#32) 255#32

/-- The exponent, from the field and whether the number is zero (`z`): zero for a number that has none. -/
def expOf (w : BitVec 32) (z : BitVec 1) : BitVec 32 :=
  Scalar.select (Scalar.ori (Scalar.ori (Scalar.cmpi .eq (field w) 0#32) (Scalar.cmpi .eq (field w) 255#32)) z) 0#32
    (Scalar.subi (field w) 126#32)

/-- The word of two to the power `e`, the field held between 0 and 255. -/
def powOf (e : BitVec 32) : BitVec 32 :=
  Scalar.shli (Scalar.select (Scalar.cmpi .sle (Scalar.addi e 127#32) 0#32) 0#32
    (Scalar.select (Scalar.cmpi .sge (Scalar.addi e 127#32) 255#32) 255#32 (Scalar.addi e 127#32))) 23#32

/-- A word with what is below the least exponent put to zero. -/
def flushed (w : BitVec 32) : BitVec 32 :=
  Scalar.select (Scalar.cmpi .eq (Scalar.andi w 2139095040#32) 0#32) (Scalar.andi w 2147483648#32) w

/-- The exponent as `frexp` has it of a word without small parts, zero put in for the number zero. -/
def frexpOf (w : BitVec 32) (z : BitVec 1) : BitVec 32 :=
  Scalar.select z 0#32 (Scalar.select
    (Scalar.ori (Scalar.cmpi .eq (field w) 255#32) (Scalar.cmpi .eq (field w) 0#32)) 0#32
    (Scalar.subi (field w) 126#32))

/-- A word without small parts, times two to the power `e` as `ldexp` has it. -/
def ldexpOf (w e : BitVec 32) : BitVec 32 :=
  let sign := Scalar.andi w 2147483648#32
  let f := Scalar.addi (field w) (Scalar.minsi (Scalar.maxsi e 4294966784#32) 512#32)
  Scalar.select (Scalar.cmpi .eq (field w) 255#32) w
    (Scalar.select (Scalar.cmpi .eq (field w) 0#32) sign
      (Scalar.select (Scalar.cmpi .sle f 0#32) sign
        (Scalar.select (Scalar.cmpi .sge f 255#32) (Scalar.ori sign 2139095040#32)
          (Scalar.ori (Scalar.ori sign (Scalar.shli f 23#32)) (Scalar.andi w 8388607#32)))))

/-- A word read back from the number it stands for. -/
def again (F : FTy → Type) [BitOps F] (w : BitVec 32) : BitVec 32 := Scalar.toBits (Scalar.ofBits (F := F) .f32 w)

/-- Where numbers are words, it is the word. -/
theorem again_eq (w : BitVec 32) : again Bits w = w := rfl

/-- The field is eight bits wide. -/
theorem field_narrow (w : BitVec 32) : ∃ q : BitVec 8, field w = q.setWidth 32 := by
  refine ⟨(w >>> 23).setWidth 8, ?_⟩
  apply BitVec.eq_of_toNat_eq
  have h : (field w).toNat = ((w >>> 23) &&& 255#32).toNat := rfl
  rw [h, BitVec.toNat_and, BitVec.toNat_setWidth, BitVec.toNat_setWidth]
  have : (w >>> 23).toNat &&& (255#32).toNat = (w >>> 23).toNat % 2 ^ 8 := Nat.and_two_pow_sub_one_eq_mod _ 8
  omega

/-- The field is the part of the word under the mask. -/
theorem field_eq (w : BitVec 32) : field w = (w &&& 2139095040#32) >>> 23 := by
  rw [BitVec.ushiftRight_and_distrib]
  rfl

/-- A choice on whether two words are equal. -/
theorem select_eq (a b x y : BitVec 32) : Scalar.select (Scalar.cmpi .eq a b) x y = if a = b then x else y := by
  show (if BitVec.ofBool (a == b) = 1#1 then x else y) = _
  by_cases h : a = b
  · rw [if_pos h, beq_iff_eq.2 h]; rfl
  · rw [if_neg h, beq_eq_false_iff_ne.2 h]; rfl

/-- Putting to zero what is below the least exponent keeps the field. -/
theorem field_flushed (w : BitVec 32) : field (flushed w) = field w := by
  by_cases h : w &&& 2139095040#32 = 0#32
  · have e : flushed w = w &&& 2147483648#32 := (select_eq _ _ _ _).trans (if_pos h)
    rw [e, field_eq, field_eq, h, BitVec.and_assoc]
    simp
  · have e : flushed w = w := (select_eq _ _ _ _).trans (if_neg h)
    rw [e]

/-- The two exponents are one. -/
theorem frexpOf_eq (w : BitVec 32) (z : BitVec 1) : frexpOf (flushed w) z = expOf w z := by
  unfold frexpOf expOf
  rw [field_flushed]
  obtain ⟨q, hq⟩ := field_narrow w
  rw [hq]
  revert q z
  suffices h : ∀ (q : BitVec 8) (z : BitVec 1),
      Scalar.select z 0#32 (Scalar.select
        (Scalar.ori (Scalar.cmpi .eq (q.setWidth 32) 255#32) (Scalar.cmpi .eq (q.setWidth 32) 0#32)) 0#32
        (Scalar.subi (q.setWidth 32) 126#32))
      = Scalar.select (Scalar.ori (Scalar.ori (Scalar.cmpi .eq (q.setWidth 32) 0#32) (Scalar.cmpi .eq (q.setWidth 32) 255#32)) z) 0#32
        (Scalar.subi (q.setWidth 32) 126#32) from fun z q _ => h q z
  decide +kernel

/-- Each of the exponents that occur is one of 256. -/
theorem expOf_narrow (w : BitVec 32) (z : BitVec 1) : ∃ q : BitVec 8, expOf w z = Scalar.subi (q.setWidth 32) 126#32 := by
  obtain ⟨q, hq⟩ := field_narrow w
  unfold expOf
  rw [hq]
  revert q z
  suffices h : ∀ (q : BitVec 8) (b : BitVec 1), ∃ r : BitVec 8,
      Scalar.select b 0#32 (Scalar.subi (q.setWidth 32) 126#32) = Scalar.subi (r.setWidth 32) 126#32 from fun z q _ => h q _
  intro q b
  match b with
  | 0#1 => exact ⟨q, rfl⟩
  | 1#1 => exact ⟨126#8, rfl⟩

/-- The two powers of two are one at those exponents … -/
theorem ldexpOf_one (w : BitVec 32) (z : BitVec 1) : ldexpOf (flushed 0x3F800000#32) (expOf w z) = powOf (expOf w z) := by
  obtain ⟨q, hq⟩ := expOf_narrow w z
  rw [hq]
  revert q
  suffices h : ∀ q : BitVec 8, ldexpOf (flushed 0x3F800000#32) (Scalar.subi (q.setWidth 32) 126#32) = powOf (Scalar.subi (q.setWidth 32) 126#32)
    from fun q _ => h q
  decide +kernel

/-- … and at their negatives. -/
theorem ldexpOf_one_neg (w : BitVec 32) (z : BitVec 1) :
    ldexpOf (flushed 0x3F800000#32) (Scalar.subi 0#32 (expOf w z)) = powOf (Scalar.subi 0#32 (expOf w z)) := by
  obtain ⟨q, hq⟩ := expOf_narrow w z
  rw [hq]
  revert q
  suffices h : ∀ q : BitVec 8, ldexpOf (flushed 0x3F800000#32) (Scalar.subi 0#32 (Scalar.subi (q.setWidth 32) 126#32))
      = powOf (Scalar.subi 0#32 (Scalar.subi (q.setWidth 32) 126#32)) from fun q _ => h q
  decide +kernel

end Cert.Proof.Quant
-- ==== Proof.Quant.lean ====
/-
  What the two quantisers compute, word for word: each body read at an index, and each array after its run.
-/
module

public import proofs.«01_k».proof.Proof.Gen.Quantise.Value
public import proofs.«01_k».proof.Proof.Gen.QuantiseReference.Value
public import proofs.«01_k».proof.Proof.Codes
public import proofs.«01_k».proof.Proof.Scale

@[expose] public section

set_option maxRecDepth 16384

noncomputable section

namespace Cert.Proof.Quant

open Idealize.ShloMosaic Idealize.ShloMosaic.TcCoe Idealize.ShloMosaic.ValueIdx Cert.Proof.Conv

/-! ### The quantiser, as one function of the maxima and an output -/

section Plain

variable {F : FTy → Type} [BitOps F]

/-- The word of the largest of the maxima over the largest code. -/
def level (T : Vec F Cert.Quantise.S32x128 .f32) : BitVec 32 :=
  Scalar.toBits (Scalar.mulf (Cert.Quantise.Gen.k0_pay2 T) (Scalar.ofBits .f32 0x3B124925#32))

/-- Whether the largest of the maxima is zero. -/
def isZero (T : Vec F Cert.Quantise.S32x128 .f32) : BitVec 1 :=
  Scalar.cmpf .oeq (Cert.Quantise.Gen.k0_pay2 T) (Scalar.ofBits .f32 0x00000000#32)

/-- The exponent of the step. -/
def expo (T : Vec F Cert.Quantise.S32x128 .f32) : BitVec 32 := expOf (level T) (isZero T)

/-- The codes of outputs `y` where the reciprocal of the step has the word `p`. -/
def codes (s : Shape) (y : FVec F s .f32) (p : BitVec 32) : FVec F s .fp8e4m3 :=
  truncf .fp8e4m3 (minimumf (broadcast s (Scalar.ofBits .f32 0x43E00000#32))
    (maximumf (broadcast s (Scalar.ofBits .f32 0xC3E00000#32)) (mulf y (broadcast s (Scalar.ofBits .f32 p))))) (by decide)

/-- A code depends on its own output only. -/
theorem codes_apply (s s' : Shape) (y : FVec F s .f32) (y' : FVec F s' .f32) (p : BitVec 32) (i : s.Idx) (i' : s'.Idx) (h : y i = y' i') :
    codes s y p i = codes s' y' p i' :=
  congrArg (fun z : F .f32 => codes (F := F) ⟨1, ![1]⟩ (fun _ => z) p (ix1 0)) h

end Plain

end Cert.Proof.Quant

/-! ### The kernel -/

namespace Cert.Proof.Quant.Kern

open Cert.Quantise Cert.Quantise.Gen Cert.Quantise.Value Idealize.ShloMosaic Idealize.ShloMosaic.TcCoe
  Idealize.ShloMosaic.ValueIdx Cert.Proof.Conv

section Body

variable {F : FTy → Type} [BitOps F]
variable (c : Dev nD) (i : grid0.Coords) (arg2 : Memref sig .tc .vmem S32x128 .f32) (harg2 : arg2.IsWhole) (arg3 : Memref sig .tc .vmem S1x160x4096 .f32) (harg3 : arg3.IsWhole) (arg4 : Memref sig .tc .vmem S1x160x4096 .fp8e4m3) (harg4 : arg4.IsWhole) (arg5 : Memref sig .tc .smem S1x1 .f32) (harg5 : arg5.IsWhole)
  (x0 : Vec F S32x128 .f32) (x1 : Vec F S1x160x4096 .f32)

abbrev rectT : Rect S32x128 := Rect.unit ![0, 0] S32x128.size inb_S32x128_S32x128_0_0
abbrev rectY : Rect S1x160x4096 := Rect.unit ![0, 0, 0] S1x160x4096.size inb_S1x160x4096_S1x160x4096_0_0_0
abbrev rectE : Rect S1x1 := Rect.unit ![0, 0] S1x1.size inb_S1x1_S1x1_0_0

theorem run_codes :
    (kernelRun0_A c i arg2 harg2 arg3 harg3 arg4 harg4 arg5 harg5 x0 x1).1
      = [⟨rectY, shapeCast S1x160x4096 (codes S160x4096 (shapeCast S160x4096 (arg3.view.readAt (Elt F) rectY.toLoadRect (harg3.unread x1)) shapeCasts_S1x160x4096_S160x4096)
          (powOf (Scalar.subi 0#32 (expo (arg2.view.readAt (Elt F) rectT.toLoadRect (harg2.unread x0)))))) shapeCasts_S160x4096_S1x160x4096⟩] := rfl

theorem run_scale :
    (kernelRun0_A c i arg2 harg2 arg3 harg3 arg4 harg4 arg5 harg5 x0 x1).2.1
      = [⟨rectE, fun _ => Scalar.ofBits .f32 (powOf (expo (arg2.view.readAt (Elt F) rectT.toLoadRect (harg2.unread x0))))⟩] := rfl

/-- What the body leaves in the block of codes. -/
theorem out_codes (u : Fin 1) (r : Fin 160) (p : Fin 4096) :
    out0_A_2 c i arg2 harg2 arg3 harg3 arg4 harg4 arg5 harg5 x0 x1 (ix3 u r p)
      = codes S1x160x4096 x1 (powOf (Scalar.subi 0#32 (expo x0))) (ix3 u r p) := by
  unfold out0_A_2
  rw [View.read_writes_junk_eq_canon, run_codes, View.canon_unit_zero (by funext a; fin_cases a <;> rfl),
    View.readAt_eq_ld, View.readAt_eq_ld, harg2.read_unread, harg3.read_unread,
    View.ld_unit_zero (by funext a; fin_cases a <;> rfl), View.ld_unit_zero (by funext a; fin_cases a <;> rfl)]
  refine (cast2_3 _ _ u r p).trans (codes_apply _ _ _ _ _ _ _ ?_)
  refine (cast3_2 _ _ r p).trans ?_
  rw [Subsingleton.elim u 0]

/-- What the body leaves in the scale. -/
theorem out_scale (j : S1x1.Idx) :
    out0_A_3 c i arg2 harg2 arg3 harg3 arg4 harg4 arg5 harg5 x0 x1 j = Scalar.ofBits .f32 (powOf (expo x0)) := by
  unfold out0_A_3
  rw [View.read_writes_junk_eq_canon, run_scale, View.canon_unit_zero (by funext a; fin_cases a <;> rfl),
    View.readAt_eq_ld, harg2.read_unread, View.ld_unit_zero (by funext a; fin_cases a <;> rfl)]

end Body

end Cert.Proof.Quant.Kern

/-! ### The reference -/

namespace Cert.Proof.Quant.Ref

open Cert.QuantiseReference Cert.QuantiseReference.Gen Cert.QuantiseReference.Value Idealize.ShloMosaic Idealize.ShloMosaic.TcCoe
  Idealize.ShloMosaic.ValueIdx

section Body

variable {F : FTy → Type} [BitOps F]
variable (c : Dev nD) (arg0 : Memref sig .tc .vmem S32x128 .f32) (harg0 : arg0.IsWhole) (arg1 : Memref sig .tc .vmem S16x160x40960 .f32) (harg1 : arg1.IsWhole) (arg2 : Memref sig .tc .vmem S16x160x40960 .fp8e4m3) (harg2 : arg2.IsWhole) (arg3 : Memref sig .tc .smem S1x1 .f32) (harg3 : arg3.IsWhole)
  (x0 : Vec F S32x128 .f32) (x1 : Vec F S16x160x40960 .f32)

abbrev rectT : Rect S32x128 := Rect.unit ![0, 0] S32x128.size inb_S32x128_S32x128_0_0
abbrev rectY : Rect S16x160x40960 := Rect.unit ![0, 0, 0] S16x160x40960.size inb_S16x160x40960_S16x160x40960_0_0_0
abbrev rectE : Rect S1x1 := Rect.unit ![0, 0] S1x1.size inb_S1x1_S1x1_0_0

/-- The exponent of the step, by `frexp`. -/
def expoR (T : Vec F S32x128 .f32) : BitVec 32 := frexpOf (again F (flushed (level T))) (isZero T)

/-- The word of two to the power `e`, by `ldexp`. -/
def powR (F : FTy → Type) [BitOps F] (e : BitVec 32) : BitVec 32 := ldexpOf (again F (flushed (again F 0x3F800000#32))) e

theorem run_codes :
    (kernelRun0_A c arg0 harg0 arg1 harg1 arg2 harg2 arg3 harg3 x0 x1).1
      = [⟨rectY, codes S16x160x40960 (arg1.view.readAt (Elt F) rectY.toLoadRect (harg1.unread x1))
          (powR F (Scalar.subi 0#32 (expoR (arg0.view.readAt (Elt F) rectT.toLoadRect (harg0.unread x0)))))⟩] := rfl

theorem run_scale :
    (kernelRun0_A c arg0 harg0 arg1 harg1 arg2 harg2 arg3 harg3 x0 x1).2.1
      = [⟨rectE, fun _ => Scalar.ofBits .f32 (powR F (expoR (arg0.view.readAt (Elt F) rectT.toLoadRect (harg0.unread x0))))⟩] := rfl

/-- What the body leaves in the array of codes. -/
theorem out_codes :
    out0_A_2 c arg0 harg0 arg1 harg1 arg2 harg2 arg3 harg3 x0 x1 = codes S16x160x40960 x1 (powR F (Scalar.subi 0#32 (expoR x0))) := by
  unfold out0_A_2
  rw [View.read_writes_junk_eq_canon, run_codes, View.canon_unit_zero (by funext a; fin_cases a <;> rfl),
    View.readAt_eq_ld, View.readAt_eq_ld, harg0.read_unread, harg1.read_unread,
    View.ld_unit_zero (by funext a; fin_cases a <;> rfl), View.ld_unit_zero (by funext a; fin_cases a <;> rfl)]

/-- What the body leaves in the scale. -/
theorem out_scale (j : S1x1.Idx) :
    out0_A_3 c arg0 harg0 arg1 harg1 arg2 harg2 arg3 harg3 x0 x1 j = Scalar.ofBits .f32 (powR F (expoR x0)) := by
  unfold out0_A_3
  rw [View.read_writes_junk_eq_canon, run_scale, View.canon_unit_zero (by funext a; fin_cases a <;> rfl),
    View.readAt_eq_ld, harg0.read_unread, View.ld_unit_zero (by funext a; fin_cases a <;> rfl)]

end Body

/-- The two exponents of the step are one … -/
theorem expoR_eq (T : Vec Bits S32x128 .f32) : expoR T = expo T := by
  unfold expoR expo
  rw [again_eq, frexpOf_eq]

/-- … and so are its words … -/
theorem powR_eq (T : Vec Bits S32x128 .f32) : powR Bits (expoR T) = powOf (expo T) := by
  rw [expoR_eq]
  unfold powR expo
  rw [again_eq, again_eq, ldexpOf_one]

/-- … and those of its reciprocal. -/
theorem powR_neg (T : Vec Bits S32x128 .f32) : powR Bits (Scalar.subi 0#32 (expoR T)) = powOf (Scalar.subi 0#32 (expo T)) := by
  rw [expoR_eq]
  unfold powR expo
  rw [again_eq, again_eq, ldexpOf_one_neg]

end Cert.Proof.Quant.Ref

end
-- ==== Proof.Same.lean ====
/-
  The two quantisers' arrays after their runs, and that they are the same words.
-/
module

public import proofs.«01_k».proof.Defs
public import proofs.«01_k».proof.Proof.Quant

@[expose] public section

set_option maxRecDepth 16384

noncomputable section

/-! ### The kernel -/

namespace Cert.Proof.Quant.Kern

open Cert.Quantise Cert.Quantise.Gen Cert.Quantise.Value Idealize.ShloMosaic Idealize.ShloMosaic.TcCoe
  Idealize.ShloMosaic.ValueIdx

variable {F : FTy → Type} [BitOps F]
variable (m : (ℓ : Loc nD τ sig) → Buf (Elt F) ℓ) (c : Dev nD)

/-- The arguments, as arrays. -/
abbrev argT : Vec F S32x128 .f32 := m (c.tc.loc main_arg0)
abbrev argY : Vec F S16x160x40960 .f32 := m (c.tc.loc main_arg1)

theorem lt_N (t : Fin cfg0.N) : t.val < 160 := t.isLt

theorem index_0 : ∀ t : Fin cfg0.N, ∀ a, win0_0.index t a = 0 := (by decide +kernel : ∀ t : Fin grid0.N, ∀ a, win0_0.index t a = 0)
theorem index_2 : ∀ t : Fin cfg0.N, win0_2.index t 0 = t.val / 10 ∧ win0_2.index t 1 = 0 ∧ win0_2.index t 2 = t.val % 10 :=
  (by decide +kernel : ∀ t : Fin grid0.N, win0_2.index t 0 = t.val / 10 ∧ win0_2.index t 1 = 0 ∧ win0_2.index t 2 = t.val % 10)
theorem index_3 : ∀ t : Fin cfg0.N, ∀ a, win0_3.index t a = 0 := (by decide +kernel : ∀ t : Fin grid0.N, ∀ a, win0_3.index t a = 0)

theorem blk_0 (t : Fin cfg0.N) : (iblk m c 0 t : Vec F S32x128 .f32) = argT m c := by
  funext (j : S32x128.Idx)
  unfold iblk
  rw [View.read_apply]
  show V m c main_arg0 _ = m (c.tc.loc main_arg0) _
  rw [V_main_arg0]
  congr 1
  funext a
  apply Fin.ext
  show win0_0.index t a * S32x128.size a + 1 * (j a).val = (j a).val
  rw [index_0 t a]; omega

/-- The block of codes a point writes lies where the block of outputs it reads does. -/
theorem blk_1 (t : Fin cfg0.N) (y : S1x160x4096.Idx) : (iblk m c 1 t : Vec F S1x160x4096 .f32) y = argY m c (((cfg0.win 2).rect t).emb y) := by
  unfold iblk
  rw [View.read_apply]
  show V m c main_arg1 _ = m (c.tc.loc main_arg1) _
  rw [V_main_arg1]
  congr 1

theorem mem_blk2 (t : Fin cfg0.N) (j : S16x160x40960.Idx) (e0 : (j 0).val = t.val / 10) (e2 : (j 2).val / 4096 = t.val % 10) :
    j ∈ ((cfg0.win 2).blk t).view.set := by
  obtain ⟨h0, h1, h2⟩ := index_2 t
  show j ∈ ((View.whole main_v0_0).slice (win0_2.rect t)).set
  rw [View.set_slice_whole, Rect.mem_set_unit]
  intro a
  match a with
  | ⟨0, _⟩ =>
    show win0_2.index t 0 * 1 ≤ (j 0).val ∧ (j 0).val < win0_2.index t 0 * 1 + 1
    rw [h0]; omega
  | ⟨1, _⟩ =>
    have hj1 : (j 1).val < 160 := (j 1).isLt
    show win0_2.index t 1 * 160 ≤ (j 1).val ∧ (j 1).val < win0_2.index t 1 * 160 + 160
    rw [h1]; omega
  | ⟨2, _⟩ =>
    show win0_2.index t 2 * 4096 ≤ (j 2).val ∧ (j 2).val < win0_2.index t 2 * 4096 + 4096
    rw [h2]; omega

/-- A block of an array of codes is its part. -/
theorem read_2 (t : Fin cfg0.N) (G : Vec F S16x160x40960 .fp8e4m3) (y : S1x160x4096.Idx) :
    (((cfg0.win 2).blk t).view.read (Elt F) G : Vec F S1x160x4096 .fp8e4m3) y = G (((cfg0.win 2).rect t).emb y) := by
  rw [View.read_apply]
  rfl

/-- A constant array read through a block is constant. -/
theorem read_3 (t : Fin cfg0.N) (G : F .f32) (y : S1x1.Idx) :
    (((cfg0.win 3).blk t).view.read (Elt F) (fun _ : S1x1.Idx => (G : Elt F .f32)) : Vec F S1x1 .f32) y = G := by
  rw [View.read_apply]
  rfl

theorem mem_blk3 (t : Fin cfg0.N) (j : S1x1.Idx) : j ∈ ((cfg0.win 3).blk t).view.set := by
  show j ∈ ((View.whole main_v0_1).slice (win0_3.rect t)).set
  rw [View.set_slice_whole, Rect.mem_set_unit]
  intro a
  show win0_3.index t a * _ ≤ (j a).val ∧ (j a).val < win0_3.index t a * _ + _
  rw [index_3 t a]
  exact ⟨by omega, by have := (j a).isLt; rw [Nat.zero_mul, Nat.zero_add]; exact this⟩

/-- What a point writes into the array of codes. -/
theorem flushed_codes (t : Fin cfg0.N) (y : S1x160x4096.Idx) :
    ((dats m 0 c).flushed 2 t : Vec F S1x160x4096 .fp8e4m3) y
      = codes S16x160x40960 (argY m c) (powOf (Scalar.subi 0#32 (expo (argT m c)))) (((cfg0.win 2).rect t).emb y) := by
  rw [flushed2_A]
  obtain ⟨u, r, p, rfl⟩ : ∃ (u : Fin 1) (r : Fin 160) (p : Fin 4096), y = ix3 u r p := ⟨_, _, _, eq_ix3 y⟩
  refine (out_codes _ _ _ _ _ _ _ _ _ _ _ _ u r p).trans ?_
  rw [blk_0]
  exact codes_apply _ _ _ _ _ _ _ (blk_1 m c t _)

/-- The codes after the run. -/
theorem arr_codes : ((dats m 0 c).arrAt 2 cfg0.N : Vec F S16x160x40960 .fp8e4m3)
    = codes S16x160x40960 (argY m c) (powOf (Scalar.subi 0#32 (expo (argT m c)))) := by
  have h := flushed_codes m c
  generalize codes S16x160x40960 (argY m c) (powOf (Scalar.subi 0#32 (expo (argT m c)))) = G at h
  have hG : ∀ t, (cfg0.win 2).flush t = true → (dats m 0 c).flushed 2 t = ((cfg0.win 2).blk t).view.read (Elt F) G :=
    fun t _ => funext fun y => (h t y).trans (read_2 t G y).symm
  funext j
  have hj0 : (j 0).val < 16 := (j 0).isLt
  have hj2 : (j 2).val < 40960 := (j 2).isLt
  have hN : cfg0.N = 160 := N_0
  exact (dats m 0 c).arrAt_apply_of_mem 2 _ hG cfg0.N ⟨10 * (j 0).val + (j 2).val / 4096, by omega⟩ j (Fin.isLt _) (flush0_2 _)
    (mem_blk2 _ j (by show (j 0).val = (10 * (j 0).val + (j 2).val / 4096) / 10; omega)
      (by show (j 2).val / 4096 = (10 * (j 0).val + (j 2).val / 4096) % 10; omega))

/-- What a point writes into the scale. -/
theorem flushed_scale (t : Fin cfg0.N) (y : S1x1.Idx) :
    ((dats m 0 c).flushed 3 t : Vec F S1x1 .f32) y = Scalar.ofBits .f32 (powOf (expo (argT m c))) := by
  rw [flushed3_A]
  refine (out_scale _ _ _ _ _ _ _ _ _ _ _ _ y).trans ?_
  rw [blk_0]

/-- The scale after the run. -/
theorem arr_scale : ((dats m 0 c).arrAt 3 cfg0.N : Vec F S1x1 .f32) = fun _ => Scalar.ofBits .f32 (powOf (expo (argT m c))) := by
  have h := flushed_scale m c
  generalize (Scalar.ofBits (F := F) .f32 (powOf (expo (argT m c)))) = G at h
  have hG : ∀ t, (cfg0.win 3).flush t = true → (dats m 0 c).flushed 3 t = ((cfg0.win 3).blk t).view.read (Elt F) (fun _ : S1x1.Idx => (G : Elt F .f32)) :=
    fun t _ => funext fun y => (h t y).trans (read_3 t G y).symm
  obtain ⟨n, hn⟩ : ∃ n : ℕ, n = 159 := ⟨_, rfl⟩
  have hN : cfg0.N = 160 := N_0
  funext j
  exact (dats m 0 c).arrAt_apply_of_mem 3 (fun _ : S1x1.Idx => (G : Elt F .f32)) hG cfg0.N ⟨n, by omega⟩ j (Fin.isLt _) ((flush0_3 _).2 (by show n % 160 = 159; omega)) (mem_blk3 _ j)

end Cert.Proof.Quant.Kern

/-! ### The reference -/

namespace Cert.Proof.Quant.Ref

open Cert.QuantiseReference Cert.QuantiseReference.Gen Cert.QuantiseReference.Value Idealize.ShloMosaic Idealize.ShloMosaic.TcCoe
  Idealize.ShloMosaic.ValueIdx

variable {F : FTy → Type} [BitOps F]
variable (m : (ℓ : Loc nD τ sig) → Buf (Elt F) ℓ) (c : Dev nD)

/-- The arguments, as arrays. -/
abbrev argT : Vec F S32x128 .f32 := m (c.tc.loc main_arg0)
abbrev argY : Vec F S16x160x40960 .f32 := m (c.tc.loc main_arg1)

theorem index_0 : ∀ t : Fin cfg0.N, ∀ a, win0_0.index t a = 0 := (by decide +kernel : ∀ t : Fin grid0.N, ∀ a, win0_0.index t a = 0)
theorem index_1 : ∀ t : Fin cfg0.N, ∀ a, win0_1.index t a = 0 := (by decide +kernel : ∀ t : Fin grid0.N, ∀ a, win0_1.index t a = 0)
theorem index_2 : ∀ t : Fin cfg0.N, ∀ a, win0_2.index t a = 0 := (by decide +kernel : ∀ t : Fin grid0.N, ∀ a, win0_2.index t a = 0)
theorem index_3 : ∀ t : Fin cfg0.N, ∀ a, win0_3.index t a = 0 := (by decide +kernel : ∀ t : Fin grid0.N, ∀ a, win0_3.index t a = 0)

theorem blk_0 (t : Fin cfg0.N) : (iblk m c 0 t : Vec F S32x128 .f32) = argT m c := by
  funext (j : S32x128.Idx)
  unfold iblk
  rw [View.read_apply]
  show V m c main_arg0 _ = m (c.tc.loc main_arg0) _
  rw [V_main_arg0]
  congr 1
  funext a
  apply Fin.ext
  show win0_0.index t a * S32x128.size a + 1 * (j a).val = (j a).val
  rw [index_0 t a]; omega

theorem blk_1 (t : Fin cfg0.N) : (iblk m c 1 t : Vec F S16x160x40960 .f32) = argY m c := by
  funext (j : S16x160x40960.Idx)
  unfold iblk
  rw [View.read_apply]
  show V m c main_arg1 _ = m (c.tc.loc main_arg1) _
  rw [V_main_arg1]
  congr 1
  funext a
  apply Fin.ext
  show win0_1.index t a * S16x160x40960.size a + 1 * (j a).val = (j a).val
  rw [index_1 t a]; omega

theorem mem_blk2 (t : Fin cfg0.N) (j : S16x160x40960.Idx) : j ∈ ((cfg0.win 2).blk t).view.set := by
  show j ∈ ((View.whole main_v0_0).slice (win0_2.rect t)).set
  rw [View.set_slice_whole, Rect.mem_set_unit]
  intro a
  show win0_2.index t a * _ ≤ (j a).val ∧ (j a).val < win0_2.index t a * _ + _
  rw [index_2 t a]
  exact ⟨by omega, by have := (j a).isLt; rw [Nat.zero_mul, Nat.zero_add]; exact this⟩

/-- A constant array read through a block is constant. -/
theorem read_3 (t : Fin cfg0.N) (G : F .f32) (y : S1x1.Idx) :
    (((cfg0.win 3).blk t).view.read (Elt F) (fun _ : S1x1.Idx => (G : Elt F .f32)) : Vec F S1x1 .f32) y = G := by
  rw [View.read_apply]
  rfl

theorem mem_blk3 (t : Fin cfg0.N) (j : S1x1.Idx) : j ∈ ((cfg0.win 3).blk t).view.set := by
  show j ∈ ((View.whole main_v0_1).slice (win0_3.rect t)).set
  rw [View.set_slice_whole, Rect.mem_set_unit]
  intro a
  show win0_3.index t a * _ ≤ (j a).val ∧ (j a).val < win0_3.index t a * _ + _
  rw [index_3 t a]
  exact ⟨by omega, by have := (j a).isLt; rw [Nat.zero_mul, Nat.zero_add]; exact this⟩

theorem emb_2 (t : Fin cfg0.N) (j : S16x160x40960.Idx) : ((cfg0.win 2).rect t).emb j = j := by
  funext a
  apply Fin.ext
  show win0_2.index t a * S16x160x40960.size a + 1 * (j a).val = (j a).val
  rw [index_2 t a]; omega

/-- An array of codes is its one block. -/
theorem read_2 (t : Fin cfg0.N) (G : Vec F S16x160x40960 .fp8e4m3) (y : S16x160x40960.Idx) :
    (((cfg0.win 2).blk t).view.read (Elt F) G : Vec F S16x160x40960 .fp8e4m3) y = G y := by
  rw [View.read_apply]
  exact congrArg G (emb_2 t y)

/-- What the run writes into the array of codes. -/
theorem flushed_codes (t : Fin cfg0.N) (y : S16x160x40960.Idx) :
    ((dats m 0 c).flushed 2 t : Vec F S16x160x40960 .fp8e4m3) y
      = codes S16x160x40960 (argY m c) (powR F (Scalar.subi 0#32 (expoR (argT m c)))) y := by
  rw [flushed2_A, out_codes, blk_0, blk_1]
  generalize codes S16x160x40960 (argY m c) (powR F (Scalar.subi 0#32 (expoR (argT m c)))) = G
  rfl

/-- The codes after the run. -/
theorem arr_codes : ((dats m 0 c).arrAt 2 cfg0.N : Vec F S16x160x40960 .fp8e4m3)
    = codes S16x160x40960 (argY m c) (powR F (Scalar.subi 0#32 (expoR (argT m c)))) := by
  have h := flushed_codes m c
  generalize codes S16x160x40960 (argY m c) (powR F (Scalar.subi 0#32 (expoR (argT m c)))) = G at h
  have hG : ∀ t, (cfg0.win 2).flush t = true → (dats m 0 c).flushed 2 t = ((cfg0.win 2).blk t).view.read (Elt F) G :=
    fun t _ => funext fun y => (h t y).trans (read_2 t G y).symm
  funext j
  exact (dats m 0 c).arrAt_apply_of_mem 2 _ hG cfg0.N t0_0 j t0_0.isLt (flush0_2 _) (mem_blk2 _ j)

/-- What the run writes into the scale. -/
theorem flushed_scale (t : Fin cfg0.N) (y : S1x1.Idx) :
    ((dats m 0 c).flushed 3 t : Vec F S1x1 .f32) y = Scalar.ofBits .f32 (powR F (expoR (argT m c))) := by
  rw [flushed3_A]
  refine (out_scale _ _ _ _ _ _ _ _ _ _ _ y).trans ?_
  rw [blk_0]

/-- The scale after the run. -/
theorem arr_scale : ((dats m 0 c).arrAt 3 cfg0.N : Vec F S1x1 .f32) = fun _ => Scalar.ofBits .f32 (powR F (expoR (argT m c))) := by
  have h := flushed_scale m c
  generalize (Scalar.ofBits (F := F) .f32 (powR F (expoR (argT m c)))) = G at h
  have hG : ∀ t, (cfg0.win 3).flush t = true → (dats m 0 c).flushed 3 t = ((cfg0.win 3).blk t).view.read (Elt F) (fun _ : S1x1.Idx => (G : Elt F .f32)) :=
    fun t _ => funext fun y => (h t y).trans (read_3 t G y).symm
  funext j
  exact (dats m 0 c).arrAt_apply_of_mem 3 (fun _ : S1x1.Idx => (G : Elt F .f32)) hG cfg0.N t0_0 j t0_0.isLt (flush0_3 _) (mem_blk3 _ j)

end Cert.Proof.Quant.Ref

/-! ### The two together -/

namespace Cert.Proof.Quant

open Idealize.ShloMosaic Idealize.SL.Sem

section Same

variable (m : (ℓ : Loc Cert.Quantise.nD Cert.Quantise.τ Cert.Quantise.sig) → Buf (Elt Bits) ℓ)
  (m' : (ℓ : Loc Cert.QuantiseReference.nD Cert.QuantiseReference.τ Cert.QuantiseReference.sig) → Buf (Elt Bits) ℓ)
  (c : Dev Cert.Quantise.nD)
  (hT : Ref.argT m' c = Kern.argT m c)

include hT in
/-- The scales agree. -/
theorem same_scale : ((Cert.QuantiseReference.Gen.dats m' 0 c).arrAt 3 Cert.QuantiseReference.cfg0.N : Vec Bits Cert.Quantise.S1x1 .f32)
    = (Cert.Quantise.Gen.dats m 0 c).arrAt 3 Cert.Quantise.cfg0.N := by
  refine (Ref.arr_scale m' c).trans (Eq.trans ?_ (Kern.arr_scale m c).symm)
  rw [Ref.powR_eq, hT]
  rfl

variable (hY : Ref.argY m' c = Kern.argY m c)

include hT hY in
/-- The codes agree. -/
theorem same_codes : ((Cert.QuantiseReference.Gen.dats m' 0 c).arrAt 2 Cert.QuantiseReference.cfg0.N : Vec Bits Cert.Quantise.S16x160x40960 .fp8e4m3)
    = (Cert.Quantise.Gen.dats m 0 c).arrAt 2 Cert.Quantise.cfg0.N := by
  refine (Ref.arr_codes m' c).trans (Eq.trans ?_ (Kern.arr_codes m c).symm)
  rw [Ref.powR_neg, hT, hY]

end Same

/-- The two quantisers compute the same words. -/
theorem bitexact : Cert.bitexact_Quantise_QuantiseReference := by
  intro m g m' g' _ hargs
  refine ⟨fun c => (Cert.Quantise.Gen.dats m 0 c).arrAt 2 Cert.Quantise.cfg0.N,
    fun c => (Cert.Quantise.Gen.dats m 0 c).arrAt 3 Cert.Quantise.cfg0.N, Cert.Quantise.Value.run_blocks m g, ?_⟩
  refine θ_run_mono (Cert.QuantiseReference.Value.run_blocks m' g') fun r hr c => ?_
  obtain ⟨h0, h1, hk⟩ := hr c
  obtain ⟨a0, a1⟩ := hargs c
  exact ⟨h0.trans (same_codes m m' c a0 a1), h1.trans (same_scale m m' c a0), hk⟩

end Cert.Proof.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.Quantise.Value
public import proofs.«01_k».proof.Proof.Gen.QuantiseReference
public import proofs.«01_k».proof.Proof.Gen.QuantiseReference.Skeleton
public import proofs.«01_k».proof.Proof.Gen.QuantiseReference.Launch
public import proofs.«01_k».proof.Proof.Gen.QuantiseReference.Points
public import proofs.«01_k».proof.Proof.Gen.QuantiseReference.Frame
public import proofs.«01_k».proof.Proof.Gen.QuantiseReference.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Skeleton
public import proofs.«01_k».proof.Proof.Gen.Reference4Ideal.Launch
public import proofs.«01_k».proof.Proof.Gen.Reference4Ideal.Points
public import proofs.«01_k».proof.Proof.Gen.Reference4Ideal.Frame
public import proofs.«01_k».proof.Proof.Gen.Reference4Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Skeleton
public import proofs.«01_k».proof.Proof.Gen.Reference8Ideal.Launch
public import proofs.«01_k».proof.Proof.Gen.Reference8Ideal.Points
public import proofs.«01_k».proof.Proof.Gen.Reference8Ideal.Frame
public import proofs.«01_k».proof.Proof.Gen.Reference8Ideal.Value
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Skeleton
public import proofs.«01_k».proof.Proof.Gen.Reference12Ideal.Launch
public import proofs.«01_k».proof.Proof.Gen.Reference12Ideal.Points
public import proofs.«01_k».proof.Proof.Gen.Reference12Ideal.Frame
public import proofs.«01_k».proof.Proof.Gen.Reference12Ideal.Value
public import proofs.«01_k».proof.Proof.Algebra
public import proofs.«01_k».proof.Proof.Same
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Kernel4.Gen.facts, Cert.Kernel4Ideal.Gen.facts, Cert.Reference4Ideal.Gen.facts,
  Cert.Kernel8.Gen.facts, Cert.Kernel8Ideal.Gen.facts, Cert.Reference8Ideal.Gen.facts,
  Cert.Kernel12.Gen.facts, Cert.Kernel12Ideal.Gen.facts, Cert.Reference12Ideal.Gen.facts,
  Cert.Quantise.Gen.facts, Cert.QuantiseReference.Gen.facts,
  fun m g _ => Cert.Kernel.Gen.frame m g,
  fun m g _ => Cert.KernelIdeal.Gen.frame m g,
  fun m g _ => Cert.ReferenceIdeal.Gen.frame m g,
  fun m g _ => Cert.Kernel4.Gen.frame m g,
  fun m g _ => Cert.Kernel4Ideal.Gen.frame m g,
  fun m g _ => Cert.Reference4Ideal.Gen.frame m g,
  fun m g _ => Cert.Kernel8.Gen.frame m g,
  fun m g _ => Cert.Kernel8Ideal.Gen.frame m g,
  fun m g _ => Cert.Reference8Ideal.Gen.frame m g,
  fun m g _ => Cert.Kernel12.Gen.frame m g,
  fun m g _ => Cert.Kernel12Ideal.Gen.frame m g,
  fun m g _ => Cert.Reference12Ideal.Gen.frame m g,
  fun m g _ => Cert.Quantise.Gen.frame m g,
  fun m g _ => Cert.QuantiseReference.Gen.frame m g,
  trivial, algebraic, trivial, algebraic_4, trivial, algebraic_8, trivial, algebraic_12, Quant.bitexact⟩

end Cert.Proof

end
